-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x2048 : Shape := ⟨2, ![2048, 2048]⟩
abbrev S2048x128 : Shape := ⟨2, ![2048, 128]⟩
abbrev S16x128x128 : Shape := ⟨3, ![16, 128, 128]⟩
abbrev S16 : Shape := ⟨1, ![16]⟩
abbrev S_ : Shape := ⟨0, ![]⟩
abbrev S2048x512 : Shape := ⟨2, ![2048, 512]⟩
abbrev S128x512 : Shape := ⟨2, ![128, 512]⟩
abbrev S128x128 : Shape := ⟨2, ![128, 128]⟩
abbrev S1x128x128 : Shape := ⟨3, ![1, 128, 128]⟩
abbrev S1 : Shape := ⟨1, ![1]⟩
abbrev S4x128x128 : Shape := ⟨3, ![4, 128, 128]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S2048x128, .f32⟩
  | .local _ .vmem, ⟨0, _⟩ => ⟨S128x2048, .f32⟩
  | .local _ .vmem, ⟨1, _⟩ => ⟨S2048x2048, .f32⟩
  | .local _ .vmem, ⟨2, _⟩ => ⟨S2048x128, .f32⟩
  | .local _ .vmem, ⟨3, _⟩ => ⟨S16x128x128, .bf16⟩
  | .local _ .vmem, ⟨4, _⟩ => ⟨S16x128x128, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.addi v2 c1_i32_0
  let c16_i32_1 : BitVec 32 := 16#32
  let v6 : BitVec 32 := Scalar.remsi v5 c16_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v9 : BitVec 32 := Scalar.addi v2 c2_i32
  let c16_i32_4 : BitVec 32 := 16#32
  let v10 : BitVec 32 := Scalar.remsi v9 c16_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c16_i32_8 : BitVec 32 := 16#32
  let v14 : BitVec 32 := Scalar.remsi v13 c16_i32_8
  let c1_i32_10 : BitVec 32 := 1#32
  let v15 : BitVec 32 := Scalar.muli v14 c1_i32_10
  let v16 : BitVec 32 := Scalar.addi c0_i32_11 v15
  v16.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v17 : BitVec 32 := Scalar.addi v2 c4_i32_12
  let c16_i32_13 : BitVec 32 := 16#32
  let v18 : BitVec 32 := Scalar.remsi v17 c16_i32_13
  let c1_i32_15 : BitVec 32 := 1#32
  let v19 : BitVec 32 := Scalar.muli v18 c1_i32_15
  let v20 : BitVec 32 := Scalar.addi c0_i32_16 v19
  v20.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v21 : BitVec 32 := Scalar.addi v2 c5_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v25 : BitVec 32 := Scalar.addi v2 c6_i32
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v29 : BitVec 32 := Scalar.addi v2 c7_i32
  let c16_i32_25 : BitVec 32 := 16#32
  let v30 : BitVec 32 := Scalar.remsi v29 c16_i32_25
  let c1_i32_27 : BitVec 32 := 1#32
  let v31 : BitVec 32 := Scalar.muli v30 c1_i32_27
  let v32 : BitVec 32 := Scalar.addi c0_i32_28 v31
  v32.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_29 : BitVec 32 := 16#32
  let v34 : BitVec 32 := Scalar.remsi v33 c16_i32_29
  let c1_i32_31 : BitVec 32 := 1#32
  let v35 : BitVec 32 := Scalar.muli v34 c1_i32_31
  let v36 : BitVec 32 := Scalar.addi c0_i32_32 v35
  v36.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v37 : BitVec 32 := Scalar.addi v2 c9_i32
  let c16_i32_33 : BitVec 32 := 16#32
  let v38 : BitVec 32 := Scalar.remsi v37 c16_i32_33
  let c1_i32_35 : BitVec 32 := 1#32
  let v39 : BitVec 32 := Scalar.muli v38 c1_i32_35
  let v40 : BitVec 32 := Scalar.addi c0_i32_36 v39
  v40.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v41 : BitVec 32 := Scalar.addi v2 c10_i32
  let c16_i32_37 : BitVec 32 := 16#32
  let v42 : BitVec 32 := Scalar.remsi v41 c16_i32_37
  let c1_i32_39 : BitVec 32 := 1#32
  let v43 : BitVec 32 := Scalar.muli v42 c1_i32_39
  let v44 : BitVec 32 := Scalar.addi c0_i32_40 v43
  v44.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v45 : BitVec 32 := Scalar.addi v2 c11_i32
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v49 : BitVec 32 := Scalar.addi v2 c12_i32
  let c16_i32_45 : BitVec 32 := 16#32
  let v50 : BitVec 32 := Scalar.remsi v49 c16_i32_45
  let c1_i32_47 : BitVec 32 := 1#32
  let v51 : BitVec 32 := Scalar.muli v50 c1_i32_47
  let v52 : BitVec 32 := Scalar.addi c0_i32_48 v51
  v52.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v53 : BitVec 32 := Scalar.addi v2 c13_i32
  let c16_i32_49 : BitVec 32 := 16#32
  let v54 : BitVec 32 := Scalar.remsi v53 c16_i32_49
  let c1_i32_51 : BitVec 32 := 1#32
  let v55 : BitVec 32 := Scalar.muli v54 c1_i32_51
  let v56 : BitVec 32 := Scalar.addi c0_i32_52 v55
  v56.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v57 : BitVec 32 := Scalar.addi v2 c14_i32
  let c16_i32_53 : BitVec 32 := 16#32
  let v58 : BitVec 32 := Scalar.remsi v57 c16_i32_53
  let c1_i32_55 : BitVec 32 := 1#32
  let v59 : BitVec 32 := Scalar.muli v58 c1_i32_55
  let v60 : BitVec 32 := Scalar.addi c0_i32_56 v59
  v60.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v61 : BitVec 32 := Scalar.addi v2 c15_i32
  let c16_i32_57 : BitVec 32 := 16#32
  let v62 : BitVec 32 := Scalar.remsi v61 c16_i32_57
  let c1_i32_59 : BitVec 32 := 1#32
  let v63 : BitVec 32 := Scalar.muli v62 c1_i32_59
  let v64 : BitVec 32 := Scalar.addi c0_i32_60 v63
  v64.toNat
def k0_off1 (d0 : Dev nD) (c0_i32_61 : BitVec 32) : Fin 2 → Nat :=
  let c0_65 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c128_i32 : BitVec 32 := 128#32
  let v70 : BitVec 32 := Scalar.muli v67 c128_i32
  let v71 : Index := Scalar.indexCast v70
  ![0, v71.toNat]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c0_i32_71 : BitVec 32 := 0#32
  let v88 : BitVec 32 := Scalar.addi v67 c0_i32_71
  let v90 : BitVec 1 := Scalar.cmpi .eq v88 v2
  let v91 : BitVec 32 := Scalar.extui v90
  let c0_i32_72 : BitVec 32 := 0#32
  let v92 : BitVec 1 := Scalar.cmpi .ne v91 c0_i32_72
  v92

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c0_i32_71 : BitVec 32 := 0#32
  let v88 : BitVec 32 := Scalar.addi v67 c0_i32_71
  let v93 : BitVec 1 := Scalar.cmpi .ne v88 v2
  let v94 : BitVec 32 := Scalar.extui v93
  let c0_i32_73 : BitVec 32 := 0#32
  let v95 : BitVec 1 := Scalar.cmpi .ne v94 c0_i32_73
  v95

def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c0_i32_71 : BitVec 32 := 0#32
  let v88 : BitVec 32 := Scalar.addi v67 c0_i32_71
  let v452 : Index := Scalar.indexCast v88
  let c0_255 : Index := 0#32
  let c0_256 : Index := 0#32
  ![v452.toNat, 0, 0]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c0_i32_71 : BitVec 32 := 0#32
  let v88 : BitVec 32 := Scalar.addi v67 c0_i32_71
  ![v88.toNat]
def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c0_i32_71 : BitVec 32 := 0#32
  let v88 : BitVec 32 := Scalar.addi v67 c0_i32_71
  let c0_i32_261 : BitVec 32 := 0#32
  let c0_i32_262 : BitVec 32 := 0#32
  ![v88.toNat, 0, 0]
def k0_dev16 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c0_i32_71 : BitVec 32 := 0#32
  let v88 : BitVec 32 := Scalar.addi v67 c0_i32_71
  let c1_i32_257 : BitVec 32 := 1#32
  let v456 : BitVec 32 := Scalar.muli v88 c1_i32_257
  let v457 : BitVec 32 := Scalar.addi c0_i32_258 v456
  v457.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c1_i32_74 : BitVec 32 := 1#32
  let v96 : BitVec 32 := Scalar.addi v67 c1_i32_74
  let v98 : BitVec 1 := Scalar.cmpi .eq v96 v2
  let v99 : BitVec 32 := Scalar.extui v98
  let c0_i32_75 : BitVec 32 := 0#32
  let v100 : BitVec 1 := Scalar.cmpi .ne v99 c0_i32_75
  v100

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c1_i32_74 : BitVec 32 := 1#32
  let v96 : BitVec 32 := Scalar.addi v67 c1_i32_74
  let v101 : BitVec 1 := Scalar.cmpi .ne v96 v2
  let v102 : BitVec 32 := Scalar.extui v101
  let c0_i32_76 : BitVec 32 := 0#32
  let v103 : BitVec 1 := Scalar.cmpi .ne v102 c0_i32_76
  v103

def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c1_i32_74 : BitVec 32 := 1#32
  let v96 : BitVec 32 := Scalar.addi v67 c1_i32_74
  let v452 : Index := Scalar.indexCast v96
  let c0_255 : Index := 0#32
  let c0_256 : Index := 0#32
  ![v452.toNat, 0, 0]
def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c1_i32_74 : BitVec 32 := 1#32
  let v96 : BitVec 32 := Scalar.addi v67 c1_i32_74
  ![v96.toNat]
def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c1_i32_74 : BitVec 32 := 1#32
  let v96 : BitVec 32 := Scalar.addi v67 c1_i32_74
  let c0_i32_261 : BitVec 32 := 0#32
  let c0_i32_262 : BitVec 32 := 0#32
  ![v96.toNat, 0, 0]
def k0_dev17 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c1_i32_74 : BitVec 32 := 1#32
  let v96 : BitVec 32 := Scalar.addi v67 c1_i32_74
  let c1_i32_257 : BitVec 32 := 1#32
  let v456 : BitVec 32 := Scalar.muli v96 c1_i32_257
  let v457 : BitVec 32 := Scalar.addi c0_i32_258 v456
  v457.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c2_i32_77 : BitVec 32 := 2#32
  let v104 : BitVec 32 := Scalar.addi v67 c2_i32_77
  let v106 : BitVec 1 := Scalar.cmpi .eq v104 v2
  let v107 : BitVec 32 := Scalar.extui v106
  let c0_i32_78 : BitVec 32 := 0#32
  let v108 : BitVec 1 := Scalar.cmpi .ne v107 c0_i32_78
  v108

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c2_i32_77 : BitVec 32 := 2#32
  let v104 : BitVec 32 := Scalar.addi v67 c2_i32_77
  let v109 : BitVec 1 := Scalar.cmpi .ne v104 v2
  let v110 : BitVec 32 := Scalar.extui v109
  let c0_i32_79 : BitVec 32 := 0#32
  let v111 : BitVec 1 := Scalar.cmpi .ne v110 c0_i32_79
  v111

def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c2_i32_77 : BitVec 32 := 2#32
  let v104 : BitVec 32 := Scalar.addi v67 c2_i32_77
  let v452 : Index := Scalar.indexCast v104
  let c0_255 : Index := 0#32
  let c0_256 : Index := 0#32
  ![v452.toNat, 0, 0]
def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c2_i32_77 : BitVec 32 := 2#32
  let v104 : BitVec 32 := Scalar.addi v67 c2_i32_77
  ![v104.toNat]
def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c2_i32_77 : BitVec 32 := 2#32
  let v104 : BitVec 32 := Scalar.addi v67 c2_i32_77
  let c0_i32_261 : BitVec 32 := 0#32
  let c0_i32_262 : BitVec 32 := 0#32
  ![v104.toNat, 0, 0]
def k0_dev18 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c2_i32_77 : BitVec 32 := 2#32
  let v104 : BitVec 32 := Scalar.addi v67 c2_i32_77
  let c1_i32_257 : BitVec 32 := 1#32
  let v456 : BitVec 32 := Scalar.muli v104 c1_i32_257
  let v457 : BitVec 32 := Scalar.addi c0_i32_258 v456
  v457.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c3_i32_80 : BitVec 32 := 3#32
  let v112 : BitVec 32 := Scalar.addi v67 c3_i32_80
  let v114 : BitVec 1 := Scalar.cmpi .eq v112 v2
  let v115 : BitVec 32 := Scalar.extui v114
  let c0_i32_81 : BitVec 32 := 0#32
  let v116 : BitVec 1 := Scalar.cmpi .ne v115 c0_i32_81
  v116

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c3_i32_80 : BitVec 32 := 3#32
  let v112 : BitVec 32 := Scalar.addi v67 c3_i32_80
  let v117 : BitVec 1 := Scalar.cmpi .ne v112 v2
  let v118 : BitVec 32 := Scalar.extui v117
  let c0_i32_82 : BitVec 32 := 0#32
  let v119 : BitVec 1 := Scalar.cmpi .ne v118 c0_i32_82
  v119

def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c3_i32_80 : BitVec 32 := 3#32
  let v112 : BitVec 32 := Scalar.addi v67 c3_i32_80
  let v452 : Index := Scalar.indexCast v112
  let c0_255 : Index := 0#32
  let c0_256 : Index := 0#32
  ![v452.toNat, 0, 0]
def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c3_i32_80 : BitVec 32 := 3#32
  let v112 : BitVec 32 := Scalar.addi v67 c3_i32_80
  ![v112.toNat]
def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c3_i32_80 : BitVec 32 := 3#32
  let v112 : BitVec 32 := Scalar.addi v67 c3_i32_80
  let c0_i32_261 : BitVec 32 := 0#32
  let c0_i32_262 : BitVec 32 := 0#32
  ![v112.toNat, 0, 0]
def k0_dev19 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_61 : BitVec 32 := 0#32
  let v65 : BitVec 32 := Scalar.addi v3 c0_i32_61
  let c4_i32_62 : BitVec 32 := 4#32
  let v66 : BitVec 32 := Scalar.remsi v65 c4_i32_62
  let c4_i32_63 : BitVec 32 := 4#32
  let v67 : BitVec 32 := Scalar.muli v66 c4_i32_63
  let c3_i32_80 : BitVec 32 := 3#32
  let v112 : BitVec 32 := Scalar.addi v67 c3_i32_80
  let c1_i32_257 : BitVec 32 := 1#32
  let v456 : BitVec 32 := Scalar.muli v112 c1_i32_257
  let v457 : BitVec 32 := Scalar.addi c0_i32_258 v456
  v457.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c0_i32_95 : BitVec 32 := 0#32
  let v143 : BitVec 32 := Scalar.addi v122 c0_i32_95
  let v145 : BitVec 1 := Scalar.cmpi .eq v143 v2
  let v146 : BitVec 32 := Scalar.extui v145
  let c0_i32_96 : BitVec 32 := 0#32
  let v147 : BitVec 1 := Scalar.cmpi .ne v146 c0_i32_96
  v147

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c0_i32_95 : BitVec 32 := 0#32
  let v143 : BitVec 32 := Scalar.addi v122 c0_i32_95
  let v148 : BitVec 1 := Scalar.cmpi .ne v143 v2
  let v149 : BitVec 32 := Scalar.extui v148
  let c0_i32_97 : BitVec 32 := 0#32
  let v150 : BitVec 1 := Scalar.cmpi .ne v149 c0_i32_97
  v150

def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c0_i32_95 : BitVec 32 := 0#32
  let v143 : BitVec 32 := Scalar.addi v122 c0_i32_95
  let v452 : Index := Scalar.indexCast v143
  let c0_255 : Index := 0#32
  let c0_256 : Index := 0#32
  ![v452.toNat, 0, 0]
def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c0_i32_95 : BitVec 32 := 0#32
  let v143 : BitVec 32 := Scalar.addi v122 c0_i32_95
  ![v143.toNat]
def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c0_i32_95 : BitVec 32 := 0#32
  let v143 : BitVec 32 := Scalar.addi v122 c0_i32_95
  let c0_i32_261 : BitVec 32 := 0#32
  let c0_i32_262 : BitVec 32 := 0#32
  ![v143.toNat, 0, 0]
def k0_dev20 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c0_i32_95 : BitVec 32 := 0#32
  let v143 : BitVec 32 := Scalar.addi v122 c0_i32_95
  let c1_i32_257 : BitVec 32 := 1#32
  let v456 : BitVec 32 := Scalar.muli v143 c1_i32_257
  let v457 : BitVec 32 := Scalar.addi c0_i32_258 v456
  v457.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c1_i32_98 : BitVec 32 := 1#32
  let v151 : BitVec 32 := Scalar.addi v122 c1_i32_98
  let v153 : BitVec 1 := Scalar.cmpi .eq v151 v2
  let v154 : BitVec 32 := Scalar.extui v153
  let c0_i32_99 : BitVec 32 := 0#32
  let v155 : BitVec 1 := Scalar.cmpi .ne v154 c0_i32_99
  v155

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c1_i32_98 : BitVec 32 := 1#32
  let v151 : BitVec 32 := Scalar.addi v122 c1_i32_98
  let v156 : BitVec 1 := Scalar.cmpi .ne v151 v2
  let v157 : BitVec 32 := Scalar.extui v156
  let c0_i32_100 : BitVec 32 := 0#32
  let v158 : BitVec 1 := Scalar.cmpi .ne v157 c0_i32_100
  v158

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c1_i32_98 : BitVec 32 := 1#32
  let v151 : BitVec 32 := Scalar.addi v122 c1_i32_98
  let v452 : Index := Scalar.indexCast v151
  let c0_255 : Index := 0#32
  let c0_256 : Index := 0#32
  ![v452.toNat, 0, 0]
def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c1_i32_98 : BitVec 32 := 1#32
  let v151 : BitVec 32 := Scalar.addi v122 c1_i32_98
  ![v151.toNat]
def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c1_i32_98 : BitVec 32 := 1#32
  let v151 : BitVec 32 := Scalar.addi v122 c1_i32_98
  let c0_i32_261 : BitVec 32 := 0#32
  let c0_i32_262 : BitVec 32 := 0#32
  ![v151.toNat, 0, 0]
def k0_dev21 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c1_i32_98 : BitVec 32 := 1#32
  let v151 : BitVec 32 := Scalar.addi v122 c1_i32_98
  let c1_i32_257 : BitVec 32 := 1#32
  let v456 : BitVec 32 := Scalar.muli v151 c1_i32_257
  let v457 : BitVec 32 := Scalar.addi c0_i32_258 v456
  v457.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c2_i32_101 : BitVec 32 := 2#32
  let v159 : BitVec 32 := Scalar.addi v122 c2_i32_101
  let v161 : BitVec 1 := Scalar.cmpi .eq v159 v2
  let v162 : BitVec 32 := Scalar.extui v161
  let c0_i32_102 : BitVec 32 := 0#32
  let v163 : BitVec 1 := Scalar.cmpi .ne v162 c0_i32_102
  v163

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c2_i32_101 : BitVec 32 := 2#32
  let v159 : BitVec 32 := Scalar.addi v122 c2_i32_101
  let v164 : BitVec 1 := Scalar.cmpi .ne v159 v2
  let v165 : BitVec 32 := Scalar.extui v164
  let c0_i32_103 : BitVec 32 := 0#32
  let v166 : BitVec 1 := Scalar.cmpi .ne v165 c0_i32_103
  v166

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c2_i32_101 : BitVec 32 := 2#32
  let v159 : BitVec 32 := Scalar.addi v122 c2_i32_101
  let v452 : Index := Scalar.indexCast v159
  let c0_255 : Index := 0#32
  let c0_256 : Index := 0#32
  ![v452.toNat, 0, 0]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c2_i32_101 : BitVec 32 := 2#32
  let v159 : BitVec 32 := Scalar.addi v122 c2_i32_101
  ![v159.toNat]
def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c2_i32_101 : BitVec 32 := 2#32
  let v159 : BitVec 32 := Scalar.addi v122 c2_i32_101
  let c0_i32_261 : BitVec 32 := 0#32
  let c0_i32_262 : BitVec 32 := 0#32
  ![v159.toNat, 0, 0]
def k0_dev22 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c2_i32_101 : BitVec 32 := 2#32
  let v159 : BitVec 32 := Scalar.addi v122 c2_i32_101
  let c1_i32_257 : BitVec 32 := 1#32
  let v456 : BitVec 32 := Scalar.muli v159 c1_i32_257
  let v457 : BitVec 32 := Scalar.addi c0_i32_258 v456
  v457.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c3_i32_104 : BitVec 32 := 3#32
  let v167 : BitVec 32 := Scalar.addi v122 c3_i32_104
  let v169 : BitVec 1 := Scalar.cmpi .eq v167 v2
  let v170 : BitVec 32 := Scalar.extui v169
  let c0_i32_105 : BitVec 32 := 0#32
  let v171 : BitVec 1 := Scalar.cmpi .ne v170 c0_i32_105
  v171

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c3_i32_104 : BitVec 32 := 3#32
  let v167 : BitVec 32 := Scalar.addi v122 c3_i32_104
  let v172 : BitVec 1 := Scalar.cmpi .ne v167 v2
  let v173 : BitVec 32 := Scalar.extui v172
  let c0_i32_106 : BitVec 32 := 0#32
  let v174 : BitVec 1 := Scalar.cmpi .ne v173 c0_i32_106
  v174

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c3_i32_104 : BitVec 32 := 3#32
  let v167 : BitVec 32 := Scalar.addi v122 c3_i32_104
  let v452 : Index := Scalar.indexCast v167
  let c0_255 : Index := 0#32
  let c0_256 : Index := 0#32
  ![v452.toNat, 0, 0]
def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c3_i32_104 : BitVec 32 := 3#32
  let v167 : BitVec 32 := Scalar.addi v122 c3_i32_104
  ![v167.toNat]
def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c3_i32_104 : BitVec 32 := 3#32
  let v167 : BitVec 32 := Scalar.addi v122 c3_i32_104
  let c0_i32_261 : BitVec 32 := 0#32
  let c0_i32_262 : BitVec 32 := 0#32
  ![v167.toNat, 0, 0]
def k0_dev23 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_83 : BitVec 32 := 1#32
  let v120 : BitVec 32 := Scalar.addi v3 c1_i32_83
  let c4_i32_84 : BitVec 32 := 4#32
  let v121 : BitVec 32 := Scalar.remsi v120 c4_i32_84
  let c4_i32_85 : BitVec 32 := 4#32
  let v122 : BitVec 32 := Scalar.muli v121 c4_i32_85
  let c3_i32_104 : BitVec 32 := 3#32
  let v167 : BitVec 32 := Scalar.addi v122 c3_i32_104
  let c1_i32_257 : BitVec 32 := 1#32
  let v456 : BitVec 32 := Scalar.muli v167 c1_i32_257
  let v457 : BitVec 32 := Scalar.addi c0_i32_258 v456
  v457.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c0_i32_119 : BitVec 32 := 0#32
  let v198 : BitVec 32 := Scalar.addi v177 c0_i32_119
  let v200 : BitVec 1 := Scalar.cmpi .eq v198 v2
  let v201 : BitVec 32 := Scalar.extui v200
  let c0_i32_120 : BitVec 32 := 0#32
  let v202 : BitVec 1 := Scalar.cmpi .ne v201 c0_i32_120
  v202

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c0_i32_119 : BitVec 32 := 0#32
  let v198 : BitVec 32 := Scalar.addi v177 c0_i32_119
  let v203 : BitVec 1 := Scalar.cmpi .ne v198 v2
  let v204 : BitVec 32 := Scalar.extui v203
  let c0_i32_121 : BitVec 32 := 0#32
  let v205 : BitVec 1 := Scalar.cmpi .ne v204 c0_i32_121
  v205

def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c0_i32_119 : BitVec 32 := 0#32
  let v198 : BitVec 32 := Scalar.addi v177 c0_i32_119
  let v452 : Index := Scalar.indexCast v198
  let c0_255 : Index := 0#32
  let c0_256 : Index := 0#32
  ![v452.toNat, 0, 0]
def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c0_i32_119 : BitVec 32 := 0#32
  let v198 : BitVec 32 := Scalar.addi v177 c0_i32_119
  ![v198.toNat]
def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c0_i32_119 : BitVec 32 := 0#32
  let v198 : BitVec 32 := Scalar.addi v177 c0_i32_119
  let c0_i32_261 : BitVec 32 := 0#32
  let c0_i32_262 : BitVec 32 := 0#32
  ![v198.toNat, 0, 0]
def k0_dev24 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c0_i32_119 : BitVec 32 := 0#32
  let v198 : BitVec 32 := Scalar.addi v177 c0_i32_119
  let c1_i32_257 : BitVec 32 := 1#32
  let v456 : BitVec 32 := Scalar.muli v198 c1_i32_257
  let v457 : BitVec 32 := Scalar.addi c0_i32_258 v456
  v457.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c1_i32_122 : BitVec 32 := 1#32
  let v206 : BitVec 32 := Scalar.addi v177 c1_i32_122
  let v208 : BitVec 1 := Scalar.cmpi .eq v206 v2
  let v209 : BitVec 32 := Scalar.extui v208
  let c0_i32_123 : BitVec 32 := 0#32
  let v210 : BitVec 1 := Scalar.cmpi .ne v209 c0_i32_123
  v210

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c1_i32_122 : BitVec 32 := 1#32
  let v206 : BitVec 32 := Scalar.addi v177 c1_i32_122
  let v211 : BitVec 1 := Scalar.cmpi .ne v206 v2
  let v212 : BitVec 32 := Scalar.extui v211
  let c0_i32_124 : BitVec 32 := 0#32
  let v213 : BitVec 1 := Scalar.cmpi .ne v212 c0_i32_124
  v213

def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c1_i32_122 : BitVec 32 := 1#32
  let v206 : BitVec 32 := Scalar.addi v177 c1_i32_122
  let v452 : Index := Scalar.indexCast v206
  let c0_255 : Index := 0#32
  let c0_256 : Index := 0#32
  ![v452.toNat, 0, 0]
def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c1_i32_122 : BitVec 32 := 1#32
  let v206 : BitVec 32 := Scalar.addi v177 c1_i32_122
  ![v206.toNat]
def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c1_i32_122 : BitVec 32 := 1#32
  let v206 : BitVec 32 := Scalar.addi v177 c1_i32_122
  let c0_i32_261 : BitVec 32 := 0#32
  let c0_i32_262 : BitVec 32 := 0#32
  ![v206.toNat, 0, 0]
def k0_dev25 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c1_i32_122 : BitVec 32 := 1#32
  let v206 : BitVec 32 := Scalar.addi v177 c1_i32_122
  let c1_i32_257 : BitVec 32 := 1#32
  let v456 : BitVec 32 := Scalar.muli v206 c1_i32_257
  let v457 : BitVec 32 := Scalar.addi c0_i32_258 v456
  v457.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c2_i32_125 : BitVec 32 := 2#32
  let v214 : BitVec 32 := Scalar.addi v177 c2_i32_125
  let v216 : BitVec 1 := Scalar.cmpi .eq v214 v2
  let v217 : BitVec 32 := Scalar.extui v216
  let c0_i32_126 : BitVec 32 := 0#32
  let v218 : BitVec 1 := Scalar.cmpi .ne v217 c0_i32_126
  v218

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c2_i32_125 : BitVec 32 := 2#32
  let v214 : BitVec 32 := Scalar.addi v177 c2_i32_125
  let v219 : BitVec 1 := Scalar.cmpi .ne v214 v2
  let v220 : BitVec 32 := Scalar.extui v219
  let c0_i32_127 : BitVec 32 := 0#32
  let v221 : BitVec 1 := Scalar.cmpi .ne v220 c0_i32_127
  v221

def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c2_i32_125 : BitVec 32 := 2#32
  let v214 : BitVec 32 := Scalar.addi v177 c2_i32_125
  let v452 : Index := Scalar.indexCast v214
  let c0_255 : Index := 0#32
  let c0_256 : Index := 0#32
  ![v452.toNat, 0, 0]
def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c2_i32_125 : BitVec 32 := 2#32
  let v214 : BitVec 32 := Scalar.addi v177 c2_i32_125
  ![v214.toNat]
def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c2_i32_125 : BitVec 32 := 2#32
  let v214 : BitVec 32 := Scalar.addi v177 c2_i32_125
  let c0_i32_261 : BitVec 32 := 0#32
  let c0_i32_262 : BitVec 32 := 0#32
  ![v214.toNat, 0, 0]
def k0_dev26 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c2_i32_125 : BitVec 32 := 2#32
  let v214 : BitVec 32 := Scalar.addi v177 c2_i32_125
  let c1_i32_257 : BitVec 32 := 1#32
  let v456 : BitVec 32 := Scalar.muli v214 c1_i32_257
  let v457 : BitVec 32 := Scalar.addi c0_i32_258 v456
  v457.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c3_i32_128 : BitVec 32 := 3#32
  let v222 : BitVec 32 := Scalar.addi v177 c3_i32_128
  let v224 : BitVec 1 := Scalar.cmpi .eq v222 v2
  let v225 : BitVec 32 := Scalar.extui v224
  let c0_i32_129 : BitVec 32 := 0#32
  let v226 : BitVec 1 := Scalar.cmpi .ne v225 c0_i32_129
  v226

def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c3_i32_128 : BitVec 32 := 3#32
  let v222 : BitVec 32 := Scalar.addi v177 c3_i32_128
  let v227 : BitVec 1 := Scalar.cmpi .ne v222 v2
  let v228 : BitVec 32 := Scalar.extui v227
  let c0_i32_130 : BitVec 32 := 0#32
  let v229 : BitVec 1 := Scalar.cmpi .ne v228 c0_i32_130
  v229

def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c3_i32_128 : BitVec 32 := 3#32
  let v222 : BitVec 32 := Scalar.addi v177 c3_i32_128
  let v452 : Index := Scalar.indexCast v222
  let c0_255 : Index := 0#32
  let c0_256 : Index := 0#32
  ![v452.toNat, 0, 0]
def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c3_i32_128 : BitVec 32 := 3#32
  let v222 : BitVec 32 := Scalar.addi v177 c3_i32_128
  ![v222.toNat]
def k0_off71 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c3_i32_128 : BitVec 32 := 3#32
  let v222 : BitVec 32 := Scalar.addi v177 c3_i32_128
  let c0_i32_261 : BitVec 32 := 0#32
  let c0_i32_262 : BitVec 32 := 0#32
  ![v222.toNat, 0, 0]
def k0_dev27 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_107 : BitVec 32 := 2#32
  let v175 : BitVec 32 := Scalar.addi v3 c2_i32_107
  let c4_i32_108 : BitVec 32 := 4#32
  let v176 : BitVec 32 := Scalar.remsi v175 c4_i32_108
  let c4_i32_109 : BitVec 32 := 4#32
  let v177 : BitVec 32 := Scalar.muli v176 c4_i32_109
  let c3_i32_128 : BitVec 32 := 3#32
  let v222 : BitVec 32 := Scalar.addi v177 c3_i32_128
  let c1_i32_257 : BitVec 32 := 1#32
  let v456 : BitVec 32 := Scalar.muli v222 c1_i32_257
  let v457 : BitVec 32 := Scalar.addi c0_i32_258 v456
  v457.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c0_i32_143 : BitVec 32 := 0#32
  let v253 : BitVec 32 := Scalar.addi v232 c0_i32_143
  let v255 : BitVec 1 := Scalar.cmpi .eq v253 v2
  let v256 : BitVec 32 := Scalar.extui v255
  let c0_i32_144 : BitVec 32 := 0#32
  let v257 : BitVec 1 := Scalar.cmpi .ne v256 c0_i32_144
  v257

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c0_i32_143 : BitVec 32 := 0#32
  let v253 : BitVec 32 := Scalar.addi v232 c0_i32_143
  let v258 : BitVec 1 := Scalar.cmpi .ne v253 v2
  let v259 : BitVec 32 := Scalar.extui v258
  let c0_i32_145 : BitVec 32 := 0#32
  let v260 : BitVec 1 := Scalar.cmpi .ne v259 c0_i32_145
  v260

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c0_i32_143 : BitVec 32 := 0#32
  let v253 : BitVec 32 := Scalar.addi v232 c0_i32_143
  let v452 : Index := Scalar.indexCast v253
  let c0_255 : Index := 0#32
  let c0_256 : Index := 0#32
  ![v452.toNat, 0, 0]
def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c0_i32_143 : BitVec 32 := 0#32
  let v253 : BitVec 32 := Scalar.addi v232 c0_i32_143
  ![v253.toNat]
def k0_off77 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c0_i32_143 : BitVec 32 := 0#32
  let v253 : BitVec 32 := Scalar.addi v232 c0_i32_143
  let c0_i32_261 : BitVec 32 := 0#32
  let c0_i32_262 : BitVec 32 := 0#32
  ![v253.toNat, 0, 0]
def k0_dev28 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c0_i32_143 : BitVec 32 := 0#32
  let v253 : BitVec 32 := Scalar.addi v232 c0_i32_143
  let c1_i32_257 : BitVec 32 := 1#32
  let v456 : BitVec 32 := Scalar.muli v253 c1_i32_257
  let v457 : BitVec 32 := Scalar.addi c0_i32_258 v456
  v457.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c1_i32_146 : BitVec 32 := 1#32
  let v261 : BitVec 32 := Scalar.addi v232 c1_i32_146
  let v263 : BitVec 1 := Scalar.cmpi .eq v261 v2
  let v264 : BitVec 32 := Scalar.extui v263
  let c0_i32_147 : BitVec 32 := 0#32
  let v265 : BitVec 1 := Scalar.cmpi .ne v264 c0_i32_147
  v265

def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c1_i32_146 : BitVec 32 := 1#32
  let v261 : BitVec 32 := Scalar.addi v232 c1_i32_146
  let v266 : BitVec 1 := Scalar.cmpi .ne v261 v2
  let v267 : BitVec 32 := Scalar.extui v266
  let c0_i32_148 : BitVec 32 := 0#32
  let v268 : BitVec 1 := Scalar.cmpi .ne v267 c0_i32_148
  v268

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c1_i32_146 : BitVec 32 := 1#32
  let v261 : BitVec 32 := Scalar.addi v232 c1_i32_146
  let v452 : Index := Scalar.indexCast v261
  let c0_255 : Index := 0#32
  let c0_256 : Index := 0#32
  ![v452.toNat, 0, 0]
def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c1_i32_146 : BitVec 32 := 1#32
  let v261 : BitVec 32 := Scalar.addi v232 c1_i32_146
  ![v261.toNat]
def k0_off83 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c1_i32_146 : BitVec 32 := 1#32
  let v261 : BitVec 32 := Scalar.addi v232 c1_i32_146
  let c0_i32_261 : BitVec 32 := 0#32
  let c0_i32_262 : BitVec 32 := 0#32
  ![v261.toNat, 0, 0]
def k0_dev29 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c1_i32_146 : BitVec 32 := 1#32
  let v261 : BitVec 32 := Scalar.addi v232 c1_i32_146
  let c1_i32_257 : BitVec 32 := 1#32
  let v456 : BitVec 32 := Scalar.muli v261 c1_i32_257
  let v457 : BitVec 32 := Scalar.addi c0_i32_258 v456
  v457.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c2_i32_149 : BitVec 32 := 2#32
  let v269 : BitVec 32 := Scalar.addi v232 c2_i32_149
  let v271 : BitVec 1 := Scalar.cmpi .eq v269 v2
  let v272 : BitVec 32 := Scalar.extui v271
  let c0_i32_150 : BitVec 32 := 0#32
  let v273 : BitVec 1 := Scalar.cmpi .ne v272 c0_i32_150
  v273

def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c2_i32_149 : BitVec 32 := 2#32
  let v269 : BitVec 32 := Scalar.addi v232 c2_i32_149
  let v274 : BitVec 1 := Scalar.cmpi .ne v269 v2
  let v275 : BitVec 32 := Scalar.extui v274
  let c0_i32_151 : BitVec 32 := 0#32
  let v276 : BitVec 1 := Scalar.cmpi .ne v275 c0_i32_151
  v276

def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c2_i32_149 : BitVec 32 := 2#32
  let v269 : BitVec 32 := Scalar.addi v232 c2_i32_149
  let v452 : Index := Scalar.indexCast v269
  let c0_255 : Index := 0#32
  let c0_256 : Index := 0#32
  ![v452.toNat, 0, 0]
def k0_off88 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c2_i32_149 : BitVec 32 := 2#32
  let v269 : BitVec 32 := Scalar.addi v232 c2_i32_149
  ![v269.toNat]
def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c2_i32_149 : BitVec 32 := 2#32
  let v269 : BitVec 32 := Scalar.addi v232 c2_i32_149
  let c0_i32_261 : BitVec 32 := 0#32
  let c0_i32_262 : BitVec 32 := 0#32
  ![v269.toNat, 0, 0]
def k0_dev30 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c2_i32_149 : BitVec 32 := 2#32
  let v269 : BitVec 32 := Scalar.addi v232 c2_i32_149
  let c1_i32_257 : BitVec 32 := 1#32
  let v456 : BitVec 32 := Scalar.muli v269 c1_i32_257
  let v457 : BitVec 32 := Scalar.addi c0_i32_258 v456
  v457.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c3_i32_152 : BitVec 32 := 3#32
  let v277 : BitVec 32 := Scalar.addi v232 c3_i32_152
  let v279 : BitVec 1 := Scalar.cmpi .eq v277 v2
  let v280 : BitVec 32 := Scalar.extui v279
  let c0_i32_153 : BitVec 32 := 0#32
  let v281 : BitVec 1 := Scalar.cmpi .ne v280 c0_i32_153
  v281

def k0_off92 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_255 : BitVec 32 := 128#32
  let v450 : BitVec 32 := Scalar.muli v2 c128_i32_255
  let v451 : Index := Scalar.indexCast v450
  let c0_256 : Index := 0#32
  ![v451.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c3_i32_152 : BitVec 32 := 3#32
  let v277 : BitVec 32 := Scalar.addi v232 c3_i32_152
  let v282 : BitVec 1 := Scalar.cmpi .ne v277 v2
  let v283 : BitVec 32 := Scalar.extui v282
  let c0_i32_154 : BitVec 32 := 0#32
  let v284 : BitVec 1 := Scalar.cmpi .ne v283 c0_i32_154
  v284

def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c3_i32_152 : BitVec 32 := 3#32
  let v277 : BitVec 32 := Scalar.addi v232 c3_i32_152
  let v452 : Index := Scalar.indexCast v277
  let c0_255 : Index := 0#32
  let c0_256 : Index := 0#32
  ![v452.toNat, 0, 0]
def k0_off94 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c3_i32_152 : BitVec 32 := 3#32
  let v277 : BitVec 32 := Scalar.addi v232 c3_i32_152
  ![v277.toNat]
def k0_off95 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_259 : BitVec 32 := 0#32
  let c0_i32_260 : BitVec 32 := 0#32
  ![v2.toNat, 0, 0]
def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c3_i32_152 : BitVec 32 := 3#32
  let v277 : BitVec 32 := Scalar.addi v232 c3_i32_152
  let c0_i32_261 : BitVec 32 := 0#32
  let c0_i32_262 : BitVec 32 := 0#32
  ![v277.toNat, 0, 0]
def k0_dev31 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v230 : BitVec 32 := Scalar.addi v3 c3_i32_131
  let c4_i32_132 : BitVec 32 := 4#32
  let v231 : BitVec 32 := Scalar.remsi v230 c4_i32_132
  let c4_i32_133 : BitVec 32 := 4#32
  let v232 : BitVec 32 := Scalar.muli v231 c4_i32_133
  let c3_i32_152 : BitVec 32 := 3#32
  let v277 : BitVec 32 := Scalar.addi v232 c3_i32_152
  let c1_i32_257 : BitVec 32 := 1#32
  let v456 : BitVec 32 := Scalar.muli v277 c1_i32_257
  let v457 : BitVec 32 := Scalar.addi c0_i32_258 v456
  v457.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c0_i32_159 : BitVec 32 := 0#32
  let v289 : BitVec 32 := Scalar.addi v288 c0_i32_159
  let v290 : BitVec 1 := Scalar.cmpi .ne v289 v2
  let v291 : BitVec 32 := Scalar.extui v290
  let c0_i32_160 : BitVec 32 := 0#32
  let v292 : BitVec 1 := Scalar.cmpi .ne v291 c0_i32_160
  v292

def k0_off98 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c0_i32_159 : BitVec 32 := 0#32
  let v289 : BitVec 32 := Scalar.addi v288 c0_i32_159
  ![v289.toNat]
def k0_off99 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c0_i32_159 : BitVec 32 := 0#32
  let v289 : BitVec 32 := Scalar.addi v288 c0_i32_159
  let c0_i32_255 : BitVec 32 := 0#32
  let c0_i32_256 : BitVec 32 := 0#32
  ![v289.toNat, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c1_i32_161 : BitVec 32 := 1#32
  let v293 : BitVec 32 := Scalar.addi v288 c1_i32_161
  let v294 : BitVec 1 := Scalar.cmpi .ne v293 v2
  let v295 : BitVec 32 := Scalar.extui v294
  let c0_i32_162 : BitVec 32 := 0#32
  let v296 : BitVec 1 := Scalar.cmpi .ne v295 c0_i32_162
  v296

def k0_off100 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c1_i32_161 : BitVec 32 := 1#32
  let v293 : BitVec 32 := Scalar.addi v288 c1_i32_161
  ![v293.toNat]
def k0_off101 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c1_i32_161 : BitVec 32 := 1#32
  let v293 : BitVec 32 := Scalar.addi v288 c1_i32_161
  let c0_i32_255 : BitVec 32 := 0#32
  let c0_i32_256 : BitVec 32 := 0#32
  ![v293.toNat, 0, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c2_i32_163 : BitVec 32 := 2#32
  let v297 : BitVec 32 := Scalar.addi v288 c2_i32_163
  let v298 : BitVec 1 := Scalar.cmpi .ne v297 v2
  let v299 : BitVec 32 := Scalar.extui v298
  let c0_i32_164 : BitVec 32 := 0#32
  let v300 : BitVec 1 := Scalar.cmpi .ne v299 c0_i32_164
  v300

def k0_off102 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c2_i32_163 : BitVec 32 := 2#32
  let v297 : BitVec 32 := Scalar.addi v288 c2_i32_163
  ![v297.toNat]
def k0_off103 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c2_i32_163 : BitVec 32 := 2#32
  let v297 : BitVec 32 := Scalar.addi v288 c2_i32_163
  let c0_i32_255 : BitVec 32 := 0#32
  let c0_i32_256 : BitVec 32 := 0#32
  ![v297.toNat, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c3_i32_165 : BitVec 32 := 3#32
  let v301 : BitVec 32 := Scalar.addi v288 c3_i32_165
  let v302 : BitVec 1 := Scalar.cmpi .ne v301 v2
  let v303 : BitVec 32 := Scalar.extui v302
  let c0_i32_166 : BitVec 32 := 0#32
  let v304 : BitVec 1 := Scalar.cmpi .ne v303 c0_i32_166
  v304

def k0_off104 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c3_i32_165 : BitVec 32 := 3#32
  let v301 : BitVec 32 := Scalar.addi v288 c3_i32_165
  ![v301.toNat]
def k0_off105 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c3_i32_165 : BitVec 32 := 3#32
  let v301 : BitVec 32 := Scalar.addi v288 c3_i32_165
  let c0_i32_255 : BitVec 32 := 0#32
  let c0_i32_256 : BitVec 32 := 0#32
  ![v301.toNat, 0, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c0_i32_167 : BitVec 32 := 0#32
  let v305 : BitVec 32 := Scalar.addi v288 c0_i32_167
  let v306 : BitVec 1 := Scalar.cmpi .ne v305 v2
  let v307 : BitVec 32 := Scalar.extui v306
  let c0_i32_168 : BitVec 32 := 0#32
  let v308 : BitVec 1 := Scalar.cmpi .ne v307 c0_i32_168
  v308

def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c0_i32_167 : BitVec 32 := 0#32
  let v305 : BitVec 32 := Scalar.addi v288 c0_i32_167
  let v450 : Index := Scalar.indexCast v305
  let c0_255 : Index := 0#32
  let c0_256 : Index := 0#32
  ![v450.toNat, 0, 0]
def k0_off107 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c0_i32_167 : BitVec 32 := 0#32
  let v305 : BitVec 32 := Scalar.addi v288 c0_i32_167
  let c128_i32_257 : BitVec 32 := 128#32
  let v454 : BitVec 32 := Scalar.muli v305 c128_i32_257
  let v455 : Index := Scalar.indexCast v454
  let c0_258 : Index := 0#32
  ![v455.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c1_i32_169 : BitVec 32 := 1#32
  let v309 : BitVec 32 := Scalar.addi v288 c1_i32_169
  let v310 : BitVec 1 := Scalar.cmpi .ne v309 v2
  let v311 : BitVec 32 := Scalar.extui v310
  let c0_i32_170 : BitVec 32 := 0#32
  let v312 : BitVec 1 := Scalar.cmpi .ne v311 c0_i32_170
  v312

def k0_off108 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c1_i32_169 : BitVec 32 := 1#32
  let v309 : BitVec 32 := Scalar.addi v288 c1_i32_169
  let v450 : Index := Scalar.indexCast v309
  let c0_255 : Index := 0#32
  let c0_256 : Index := 0#32
  ![v450.toNat, 0, 0]
def k0_off109 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c1_i32_169 : BitVec 32 := 1#32
  let v309 : BitVec 32 := Scalar.addi v288 c1_i32_169
  let c128_i32_257 : BitVec 32 := 128#32
  let v454 : BitVec 32 := Scalar.muli v309 c128_i32_257
  let v455 : Index := Scalar.indexCast v454
  let c0_258 : Index := 0#32
  ![v455.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c2_i32_171 : BitVec 32 := 2#32
  let v313 : BitVec 32 := Scalar.addi v288 c2_i32_171
  let v314 : BitVec 1 := Scalar.cmpi .ne v313 v2
  let v315 : BitVec 32 := Scalar.extui v314
  let c0_i32_172 : BitVec 32 := 0#32
  let v316 : BitVec 1 := Scalar.cmpi .ne v315 c0_i32_172
  v316

def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c2_i32_171 : BitVec 32 := 2#32
  let v313 : BitVec 32 := Scalar.addi v288 c2_i32_171
  let v450 : Index := Scalar.indexCast v313
  let c0_255 : Index := 0#32
  let c0_256 : Index := 0#32
  ![v450.toNat, 0, 0]
def k0_off111 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c2_i32_171 : BitVec 32 := 2#32
  let v313 : BitVec 32 := Scalar.addi v288 c2_i32_171
  let c128_i32_257 : BitVec 32 := 128#32
  let v454 : BitVec 32 := Scalar.muli v313 c128_i32_257
  let v455 : Index := Scalar.indexCast v454
  let c0_258 : Index := 0#32
  ![v455.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c3_i32_173 : BitVec 32 := 3#32
  let v317 : BitVec 32 := Scalar.addi v288 c3_i32_173
  let v318 : BitVec 1 := Scalar.cmpi .ne v317 v2
  let v319 : BitVec 32 := Scalar.extui v318
  let c0_i32_174 : BitVec 32 := 0#32
  let v320 : BitVec 1 := Scalar.cmpi .ne v319 c0_i32_174
  v320

def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c3_i32_173 : BitVec 32 := 3#32
  let v317 : BitVec 32 := Scalar.addi v288 c3_i32_173
  let v450 : Index := Scalar.indexCast v317
  let c0_255 : Index := 0#32
  let c0_256 : Index := 0#32
  ![v450.toNat, 0, 0]
def k0_off113 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_155 : BitVec 32 := 0#32
  let v285 : BitVec 32 := Scalar.subi v3 c0_i32_155
  let c4_i32_156 : BitVec 32 := 4#32
  let v286 : BitVec 32 := Scalar.addi v285 c4_i32_156
  let c4_i32_157 : BitVec 32 := 4#32
  let v287 : BitVec 32 := Scalar.remsi v286 c4_i32_157
  let c4_i32_158 : BitVec 32 := 4#32
  let v288 : BitVec 32 := Scalar.muli v287 c4_i32_158
  let c3_i32_173 : BitVec 32 := 3#32
  let v317 : BitVec 32 := Scalar.addi v288 c3_i32_173
  let c128_i32_257 : BitVec 32 := 128#32
  let v454 : BitVec 32 := Scalar.muli v317 c128_i32_257
  let v455 : Index := Scalar.indexCast v454
  let c0_258 : Index := 0#32
  ![v455.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c0_i32_179 : BitVec 32 := 0#32
  let v325 : BitVec 32 := Scalar.addi v324 c0_i32_179
  let v326 : BitVec 1 := Scalar.cmpi .ne v325 v2
  let v327 : BitVec 32 := Scalar.extui v326
  let c0_i32_180 : BitVec 32 := 0#32
  let v328 : BitVec 1 := Scalar.cmpi .ne v327 c0_i32_180
  v328

def k0_off114 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c0_i32_179 : BitVec 32 := 0#32
  let v325 : BitVec 32 := Scalar.addi v324 c0_i32_179
  ![v325.toNat]
def k0_off115 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c0_i32_179 : BitVec 32 := 0#32
  let v325 : BitVec 32 := Scalar.addi v324 c0_i32_179
  let c0_i32_255 : BitVec 32 := 0#32
  let c0_i32_256 : BitVec 32 := 0#32
  ![v325.toNat, 0, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c1_i32_181 : BitVec 32 := 1#32
  let v329 : BitVec 32 := Scalar.addi v324 c1_i32_181
  let v330 : BitVec 1 := Scalar.cmpi .ne v329 v2
  let v331 : BitVec 32 := Scalar.extui v330
  let c0_i32_182 : BitVec 32 := 0#32
  let v332 : BitVec 1 := Scalar.cmpi .ne v331 c0_i32_182
  v332

def k0_off116 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c1_i32_181 : BitVec 32 := 1#32
  let v329 : BitVec 32 := Scalar.addi v324 c1_i32_181
  ![v329.toNat]
def k0_off117 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c1_i32_181 : BitVec 32 := 1#32
  let v329 : BitVec 32 := Scalar.addi v324 c1_i32_181
  let c0_i32_255 : BitVec 32 := 0#32
  let c0_i32_256 : BitVec 32 := 0#32
  ![v329.toNat, 0, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c2_i32_183 : BitVec 32 := 2#32
  let v333 : BitVec 32 := Scalar.addi v324 c2_i32_183
  let v334 : BitVec 1 := Scalar.cmpi .ne v333 v2
  let v335 : BitVec 32 := Scalar.extui v334
  let c0_i32_184 : BitVec 32 := 0#32
  let v336 : BitVec 1 := Scalar.cmpi .ne v335 c0_i32_184
  v336

def k0_off118 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c2_i32_183 : BitVec 32 := 2#32
  let v333 : BitVec 32 := Scalar.addi v324 c2_i32_183
  ![v333.toNat]
def k0_off119 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c2_i32_183 : BitVec 32 := 2#32
  let v333 : BitVec 32 := Scalar.addi v324 c2_i32_183
  let c0_i32_255 : BitVec 32 := 0#32
  let c0_i32_256 : BitVec 32 := 0#32
  ![v333.toNat, 0, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c3_i32_185 : BitVec 32 := 3#32
  let v337 : BitVec 32 := Scalar.addi v324 c3_i32_185
  let v338 : BitVec 1 := Scalar.cmpi .ne v337 v2
  let v339 : BitVec 32 := Scalar.extui v338
  let c0_i32_186 : BitVec 32 := 0#32
  let v340 : BitVec 1 := Scalar.cmpi .ne v339 c0_i32_186
  v340

def k0_off120 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c3_i32_185 : BitVec 32 := 3#32
  let v337 : BitVec 32 := Scalar.addi v324 c3_i32_185
  ![v337.toNat]
def k0_off121 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_175 : BitVec 32 := 1#32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c3_i32_185 : BitVec 32 := 3#32
  let v337 : BitVec 32 := Scalar.addi v324 c3_i32_185
  let c0_i32_255 : BitVec 32 := 0#32
  let c0_i32_256 : BitVec 32 := 0#32
  ![v337.toNat, 0, 0]
def k0_off122 (d0 : Dev nD) (c1_i32_175 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let v341 : Index := Scalar.indexCast v324
  let c0_187 : Index := 0#32
  let c0_188 : Index := 0#32
  ![v341.toNat, 0, 0]
def k0_off123 (d0 : Dev nD) (c1_i32_175 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v321 : BitVec 32 := Scalar.subi v3 c1_i32_175
  let c4_i32_176 : BitVec 32 := 4#32
  let v322 : BitVec 32 := Scalar.addi v321 c4_i32_176
  let c4_i32_177 : BitVec 32 := 4#32
  let v323 : BitVec 32 := Scalar.remsi v322 c4_i32_177
  let c4_i32_178 : BitVec 32 := 4#32
  let v324 : BitVec 32 := Scalar.muli v323 c4_i32_178
  let c128_i32_189 : BitVec 32 := 128#32
  let v345 : BitVec 32 := Scalar.muli v324 c128_i32_189
  let v346 : Index := Scalar.indexCast v345
  let c0_190 : Index := 0#32
  ![v346.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c0_i32_195 : BitVec 32 := 0#32
  let v352 : BitVec 32 := Scalar.addi v351 c0_i32_195
  let v353 : BitVec 1 := Scalar.cmpi .ne v352 v2
  let v354 : BitVec 32 := Scalar.extui v353
  let c0_i32_196 : BitVec 32 := 0#32
  let v355 : BitVec 1 := Scalar.cmpi .ne v354 c0_i32_196
  v355

def k0_off124 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c0_i32_195 : BitVec 32 := 0#32
  let v352 : BitVec 32 := Scalar.addi v351 c0_i32_195
  ![v352.toNat]
def k0_off125 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c0_i32_195 : BitVec 32 := 0#32
  let v352 : BitVec 32 := Scalar.addi v351 c0_i32_195
  let c0_i32_255 : BitVec 32 := 0#32
  let c0_i32_256 : BitVec 32 := 0#32
  ![v352.toNat, 0, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c1_i32_197 : BitVec 32 := 1#32
  let v356 : BitVec 32 := Scalar.addi v351 c1_i32_197
  let v357 : BitVec 1 := Scalar.cmpi .ne v356 v2
  let v358 : BitVec 32 := Scalar.extui v357
  let c0_i32_198 : BitVec 32 := 0#32
  let v359 : BitVec 1 := Scalar.cmpi .ne v358 c0_i32_198
  v359

def k0_off126 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c1_i32_197 : BitVec 32 := 1#32
  let v356 : BitVec 32 := Scalar.addi v351 c1_i32_197
  ![v356.toNat]
def k0_off127 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c1_i32_197 : BitVec 32 := 1#32
  let v356 : BitVec 32 := Scalar.addi v351 c1_i32_197
  let c0_i32_255 : BitVec 32 := 0#32
  let c0_i32_256 : BitVec 32 := 0#32
  ![v356.toNat, 0, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c2_i32_199 : BitVec 32 := 2#32
  let v360 : BitVec 32 := Scalar.addi v351 c2_i32_199
  let v361 : BitVec 1 := Scalar.cmpi .ne v360 v2
  let v362 : BitVec 32 := Scalar.extui v361
  let c0_i32_200 : BitVec 32 := 0#32
  let v363 : BitVec 1 := Scalar.cmpi .ne v362 c0_i32_200
  v363

def k0_off128 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c2_i32_199 : BitVec 32 := 2#32
  let v360 : BitVec 32 := Scalar.addi v351 c2_i32_199
  ![v360.toNat]
def k0_off129 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c2_i32_199 : BitVec 32 := 2#32
  let v360 : BitVec 32 := Scalar.addi v351 c2_i32_199
  let c0_i32_255 : BitVec 32 := 0#32
  let c0_i32_256 : BitVec 32 := 0#32
  ![v360.toNat, 0, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c3_i32_201 : BitVec 32 := 3#32
  let v364 : BitVec 32 := Scalar.addi v351 c3_i32_201
  let v365 : BitVec 1 := Scalar.cmpi .ne v364 v2
  let v366 : BitVec 32 := Scalar.extui v365
  let c0_i32_202 : BitVec 32 := 0#32
  let v367 : BitVec 1 := Scalar.cmpi .ne v366 c0_i32_202
  v367

def k0_off130 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c3_i32_201 : BitVec 32 := 3#32
  let v364 : BitVec 32 := Scalar.addi v351 c3_i32_201
  ![v364.toNat]
def k0_off131 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_191 : BitVec 32 := 2#32
  let v348 : BitVec 32 := Scalar.subi v3 c2_i32_191
  let c4_i32_192 : BitVec 32 := 4#32
  let v349 : BitVec 32 := Scalar.addi v348 c4_i32_192
  let c4_i32_193 : BitVec 32 := 4#32
  let v350 : BitVec 32 := Scalar.remsi v349 c4_i32_193
  let c4_i32_194 : BitVec 32 := 4#32
  let v351 : BitVec 32 := Scalar.muli v350 c4_i32_194
  let c3_i32_201 : BitVec 32 := 3#32
  let v364 : BitVec 32 := Scalar.addi v351 c3_i32_201
  let c0_i32_255 : BitVec 32 := 0#32
  let c0_i32_256 : BitVec 32 := 0#32
  ![v364.toNat, 0, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c0_i32_211 : BitVec 32 := 0#32
  let v379 : BitVec 32 := Scalar.addi v378 c0_i32_211
  let v380 : BitVec 1 := Scalar.cmpi .ne v379 v2
  let v381 : BitVec 32 := Scalar.extui v380
  let c0_i32_212 : BitVec 32 := 0#32
  let v382 : BitVec 1 := Scalar.cmpi .ne v381 c0_i32_212
  v382

def k0_off132 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c0_i32_211 : BitVec 32 := 0#32
  let v379 : BitVec 32 := Scalar.addi v378 c0_i32_211
  ![v379.toNat]
def k0_off133 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c0_i32_211 : BitVec 32 := 0#32
  let v379 : BitVec 32 := Scalar.addi v378 c0_i32_211
  let c0_i32_255 : BitVec 32 := 0#32
  let c0_i32_256 : BitVec 32 := 0#32
  ![v379.toNat, 0, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c1_i32_213 : BitVec 32 := 1#32
  let v383 : BitVec 32 := Scalar.addi v378 c1_i32_213
  let v384 : BitVec 1 := Scalar.cmpi .ne v383 v2
  let v385 : BitVec 32 := Scalar.extui v384
  let c0_i32_214 : BitVec 32 := 0#32
  let v386 : BitVec 1 := Scalar.cmpi .ne v385 c0_i32_214
  v386

def k0_off134 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c1_i32_213 : BitVec 32 := 1#32
  let v383 : BitVec 32 := Scalar.addi v378 c1_i32_213
  ![v383.toNat]
def k0_off135 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c1_i32_213 : BitVec 32 := 1#32
  let v383 : BitVec 32 := Scalar.addi v378 c1_i32_213
  let c0_i32_255 : BitVec 32 := 0#32
  let c0_i32_256 : BitVec 32 := 0#32
  ![v383.toNat, 0, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c2_i32_215 : BitVec 32 := 2#32
  let v387 : BitVec 32 := Scalar.addi v378 c2_i32_215
  let v388 : BitVec 1 := Scalar.cmpi .ne v387 v2
  let v389 : BitVec 32 := Scalar.extui v388
  let c0_i32_216 : BitVec 32 := 0#32
  let v390 : BitVec 1 := Scalar.cmpi .ne v389 c0_i32_216
  v390

def k0_off136 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c2_i32_215 : BitVec 32 := 2#32
  let v387 : BitVec 32 := Scalar.addi v378 c2_i32_215
  ![v387.toNat]
def k0_off137 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c2_i32_215 : BitVec 32 := 2#32
  let v387 : BitVec 32 := Scalar.addi v378 c2_i32_215
  let c0_i32_255 : BitVec 32 := 0#32
  let c0_i32_256 : BitVec 32 := 0#32
  ![v387.toNat, 0, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c3_i32_217 : BitVec 32 := 3#32
  let v391 : BitVec 32 := Scalar.addi v378 c3_i32_217
  let v392 : BitVec 1 := Scalar.cmpi .ne v391 v2
  let v393 : BitVec 32 := Scalar.extui v392
  let c0_i32_218 : BitVec 32 := 0#32
  let v394 : BitVec 1 := Scalar.cmpi .ne v393 c0_i32_218
  v394

def k0_off138 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c3_i32_217 : BitVec 32 := 3#32
  let v391 : BitVec 32 := Scalar.addi v378 c3_i32_217
  ![v391.toNat]
def k0_off139 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_207 : BitVec 32 := 3#32
  let v375 : BitVec 32 := Scalar.subi v3 c3_i32_207
  let c4_i32_208 : BitVec 32 := 4#32
  let v376 : BitVec 32 := Scalar.addi v375 c4_i32_208
  let c4_i32_209 : BitVec 32 := 4#32
  let v377 : BitVec 32 := Scalar.remsi v376 c4_i32_209
  let c4_i32_210 : BitVec 32 := 4#32
  let v378 : BitVec 32 := Scalar.muli v377 c4_i32_210
  let c3_i32_217 : BitVec 32 := 3#32
  let v391 : BitVec 32 := Scalar.addi v378 c3_i32_217
  let c0_i32_255 : BitVec 32 := 0#32
  let c0_i32_256 : BitVec 32 := 0#32
  ![v391.toNat, 0, 0]
abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Blocks.lean ====
/-
# The blocks the devices compute and exchange

The contents every later module names, over any float values: device `c`'s row block of the product through the
activation, cut into sixteen blocks of 128 columns; what its send buffer holds block by block; what its receive buffer
holds once every block has landed; and what its result holds at the end. Everything is a function of the devices'
operands `X` (their row blocks) and `Y` (the weights, one copy per device).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Scatter

open Cert.KernelIdeal Cert.KernelIdeal.Gen
open Idealize.ShloMosaic Idealize.ShloMosaic.TcCoe
open Idealize.ShloMosaic.ValueIdx

variable {F : FTy → Type} [FloatOps F]

/-- The five buffers the kernel touches, whole. -/
abbrev xM : Memref sig .tc .vmem S128x2048 .f32 := Memref.whole cc0_stg0_0
abbrev wM : Memref sig .tc .vmem S2048x2048 .f32 := Memref.whole cc0_stg1_0
abbrev oM : Memref sig .tc .vmem S2048x128 .f32 := Memref.whole cc0_stg2_0
abbrev yM : Memref sig .tc .vmem S16x128x128 .bf16 := Memref.whole cc0_scratch0
abbrev rM : Memref sig .tc .vmem S16x128x128 .bf16 := Memref.whole cc0_scratch1

/-- The 512 columns of the weights that begin at column `512 k`. -/
def slab (w : Vec F S2048x2048 .f32) (k : Fin 4) : Vec F S2048x512 .f32 :=
  fun i => w (ix2 (i 0) ⟨512 * k.val + (i 1).val, by have := k.isLt; have := (i 1).isLt; simp at this; omega⟩)

/-- The activated product of a row block with 512 columns of the weights, as the kernel computes it. -/
def act (x : Vec F S128x2048 .f32) (w : Vec F S2048x512 .f32) : FVec F S128x512 .f32 := k0_pay12 x w

/-- Columns `128 q` to `128 q + 127` of a 512-column block. -/
def cols (v : FVec F S128x512 .f32) (q : Fin 4) : FVec F S128x128 .f32 :=
  fun i => v (ix2 (i 0) ⟨128 * q.val + (i 1).val, by have := q.isLt; have := (i 1).isLt; simp at this; omega⟩)

variable (X : Dev nD → Vec F S128x2048 .f32) (Y : Dev nD → Vec F S2048x2048 .f32)

/-- Block `j` of device `c`: the 128 columns of its activated product that belong to device `j`. -/
def blk (c j : Dev nD) : FVec F S128x128 .f32 :=
  cols (act (X c) (slab (Y c) ⟨j.val / 4, by have h : j.val < 16 := j.isLt; omega⟩)) ⟨j.val % 4, Nat.mod_lt _ (by decide)⟩

/-- One number rounded to bf16, and one widened back. -/
abbrev nar (a : F .f32) : F .bf16 := FloatOps.truncf .bf16 bitsLt_bf16_f32 a
abbrev wid (a : F .bf16) : F .f32 := FloatOps.extf .f32 bitsLt_bf16_f32 a

/-- The send buffer of device `c` with every slot written: slot `j` is its block `j`, rounded. -/
def sent (c : Dev nD) : (cc0_scratch0 : Ref sig .tc).ty.Contents (Elt F) :=
  fun i : S16x128x128.Idx => nar (blk X Y c (i 0) (ix2 (i 1) (i 2)))

/-- The receive buffer of device `c` with every slot landed: slot `i` is device `i`'s block `c`, rounded. -/
def landed (c : Dev nD) : (cc0_scratch1 : Ref sig .tc).ty.Contents (Elt F) :=
  fun i : S16x128x128.Idx => nar (blk X Y (i 0) c (ix2 (i 1) (i 2)))

/-- The result of device `c`: rows `128 i` to `128 i + 127` are its own block where `i = c`, and device `i`'s block
    `c`, rounded and widened, elsewhere. -/
def final (c : Dev nD) : (cc0_stg2_0 : Ref sig .tc).ty.Contents (Elt F) :=
  fun i : S2048x128.Idx =>
    let d : Dev nD := ⟨(i 0).val / 128, by have h : (i 0).val < 2048 := (i 0).isLt; show _ < 16; omega⟩
    let a : F .f32 := blk X Y d c (ix2 ⟨(i 0).val % 128, Nat.mod_lt _ (by decide)⟩ (i 1))
    if d = c then a else wid (nar a)

/-! ## The printed payloads are these blocks -/

theorem load_x (f : Vec F S128x2048 .f32) :
    (xM.view.readAt (Elt F) (Rect.unit (s := S128x2048) ![0, 0] S128x2048.size inb_S128x2048_S128x2048_0_0).toLoadRect f) = f :=
  Memref.readAt_unit_zero (Elt F) cc0_stg0_0 (funext fun a => by fin_cases a <;> rfl) _ f

theorem load_w (f : Vec F S2048x2048 .f32) (k : Fin 4) (off : Fin 2 → Nat) (h) (ho : off = ![0, 512 * k.val]) :
    (wM.view.readAt (Elt F) (Rect.unit (s := S2048x2048) off S2048x512.size h).toLoadRect f) = slab f k := by
  subst ho
  funext i
  show f _ = f _
  congr 1
  funext a
  fin_cases a
  · exact Fin.ext (show 0 + 1 * (i 0).val = (i 0).val by omega)
  · exact Fin.ext (show 512 * k.val + 1 * (i 1).val = 512 * k.val + (i 1).val by omega)

theorem slice_cols (v : FVec F S128x512 .f32) (q : Fin 4) (off : Fin 2 → Nat) (ho : off = ![0, 128 * q.val]) (h : S128x512.Slices off S128x128) :
    extractStridedSlice S128x128 off v h = cols v q := by
  subst ho
  funext i
  unfold cols extractStridedSlice
  congr 1
  funext a
  fin_cases a
  · exact Fin.ext (by simp)
  · exact Fin.ext (by simp)

theorem narrow_apply (b : FVec F S128x128 .f32) (u : Fin 1) (r k : Fin 128) : k0_pay11 b (ix3 u r k) = nar (b (ix2 r k)) := by
  show shapeCast S1x128x128 (shapeCast S1x128x128 (truncf .bf16 b bitsLt_bf16_f32) shapeCasts_S128x128_S1x128x128)
    shapeCasts_S1x128x128_S1x128x128 (ix3 u r k) = _
  rw [shapeCast_self]
  exact shapeCast_ab_1ab_apply _ _ _ _ _

theorem widen_apply (b : Vec F S1x128x128 .bf16) (r k : Fin 128) : k0_pay42 b (ix2 r k) = wid (b (ix3 0 r k)) :=
  congrArg wid (shapeCast_1ab_ab_apply _ _ _ _)

theorem widen4_apply (b : Vec F S4x128x128 .bf16) (p : Fin 4) (r k : Fin 128) (R : Fin 512) (hR : R.val = 128 * p.val + r.val) :
    k0_pay46 b (ix2 R k) = wid (b (ix3 p r k)) :=
  congrArg wid (shapeCast_apply b _ _ _ (by
    rw [Shape.rowMajor_val_three, Shape.rowMajor_val_two]
    show (p.val * 128 + r.val) * 128 + k.val = R.val * 128 + k.val
    omega))

end Cert.Scatter

end
-- ==== Proof.Protocol.lean ====
/-
# The exchange: semaphore cells, what each landing hands over, levels

Per device `c` there are three kinds of cells: its barrier (one), its send semaphores (one per destination `j`), its
receive semaphores (one per source `i`).

* Barrier of `c`: every other device `d` signals one unit, and with it hands `c` slot `c` of `d`'s receive buffer;
  `c` waits for fifteen units before its first transfer.
* Send semaphore `j` of `c` (`j ≠ c`): `c`'s transfer to `j` puts the credit there when slot `j` of `c`'s send buffer
  has been read, and hands the slot back; `c` waits for it at the end.
* Receive semaphore `i` of `c` (`i ≠ c`): device `i`'s transfer to `c` puts the credit there when it has landed, and
  hands `c` its slot `i` holding device `i`'s block; `c` waits for it before reading the slot.

The semaphores with `j = c` and `i = c` are never used. Every cell has one round.
-/
module

public import proofs.«01_k».proof.Proof.Blocks

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The ghost state: the launch library's own, and the exchange's, whose duties are named by the paying device. -/
abbrev UB : Type := URounds (GSem nD τ sig) (Dev nD)
abbrev UU : Type := UR sig nD τ × UB

local notation "𝕄" => MT nD τ sig Unit (Elt F) ℕ UU ℕ

abbrev ER : Emb UB (MT nD τ sig Unit (Elt F) ℕ UU ℕ) := embR

variable (X : Dev nD → Vec F S128x2048 .f32) (Y : Dev nD → Vec F S2048x2048 .f32)

/-! ## Cells -/

abbrev barS : Sem sig := (SemArray.scalar (sig.barrier 0 rfl) : Sems sig S_).sem
set_option backward.proofsInPublic true in
def sendS (j : Dev nD) : DmaSem sig := ⟨3 + j.val, by have h : j.val < 16 := j.isLt; show _ < 35; omega⟩
set_option backward.proofsInPublic true in
def recvS (i : Dev nD) : DmaSem sig := ⟨19 + i.val, by have h : i.val < 16 := i.isLt; show _ < 35; omega⟩

/-- A cell of a device: its barrier, a send semaphore, a receive semaphore. -/
abbrev Kind : Type := Option (Bool × Dev nD)
def semOf : Kind → SemLoc sig
  | none => .reg barS
  | some (false, j) => .dma (sendS j)
  | some (true, i) => .dma (recvS i)

/-- Which of them a semaphore is, if any. -/
def kindOf : SemLoc sig → Option Kind
  | .reg s => if s = barS then some none else none
  | .dma s => if h : 3 ≤ s.val ∧ s.val < 19 then some (some (false, ⟨s.val - 3, by show _ < 16; omega⟩))
      else if h : 19 ≤ s.val ∧ s.val < 35 then some (some (true, ⟨s.val - 19, by show _ < 16; omega⟩)) else none

theorem kindOf_semOf (k : Kind) : kindOf (semOf k) = some k := by revert k; decide

theorem semOf_injective : Function.Injective semOf := fun a b h => by
  have := congrArg kindOf h
  rw [kindOf_semOf, kindOf_semOf] at this
  exact Option.some.inj this

abbrev cell (c : Dev nD) (k : Kind) : GSem nD τ sig := ((c : Thread nD τ), semOf k)
abbrev barCell (c : Dev nD) : GSem nD τ sig := cell c none
abbrev sendCell (c j : Dev nD) : GSem nD τ sig := cell c (some (false, j))
abbrev recvCell (c i : Dev nD) : GSem nD τ sig := cell c (some (true, i))

/-- The one semaphore of the sixteen at an offset, as the kernel takes it. -/
theorem sendS_slice (j : Dev nD) (off : Fin 1 → Nat) (ho : off = ![j.val]) (h) :
    ((cc0_scratch2.slice (Rect.unit (s := S16) off S1.size h)).squeeze S_ squeezes_S1_S_).sem = sendS j := by
  subst ho; revert h; revert j; decide
theorem recvS_slice (i : Dev nD) (off : Fin 1 → Nat) (ho : off = ![i.val]) (h) :
    ((cc0_scratch3.slice (Rect.unit (s := S16) off S1.size h)).squeeze S_ squeezes_S1_S_).sem = recvS i := by
  subst ho; revert h; revert i; decide

/-! ## Slots -/

/-- Slot `j` of a buffer of sixteen blocks. -/
def slot (j : Dev nD) : Finset S16x128x128.Idx := Finset.univ.filter fun i => (i 0).val = j.val
theorem mem_slot {j : Dev nD} {i : S16x128x128.Idx} : i ∈ slot j ↔ (i 0).val = j.val := by simp [slot]
theorem slot_disjoint {j j' : Dev nD} (h : j ≠ j') : Disjoint (slot j) (slot j') :=
  Finset.disjoint_left.mpr fun i h1 h2 => h (Fin.ext ((mem_slot.mp h1).symm.trans (mem_slot.mp h2)))

/-- Device `c`'s send buffer over the elements `S`, and its receive buffer. -/
abbrev yOn (c : Dev nD) (S : Finset S16x128x128.Idx) (f : (cc0_scratch0 : Ref sig .tc).ty.Contents (Elt F)) : sProp 𝕄 :=
  ((c : Thread nD τ).loc cc0_scratch0) ↦[S]{fullShare} f
abbrev rOn (c : Dev nD) (S : Finset S16x128x128.Idx) (f : (cc0_scratch1 : Ref sig .tc).ty.Contents (Elt F)) : sProp 𝕄 :=
  ((c : Thread nD τ).loc cc0_scratch1) ↦[S]{fullShare} f

/-! ## The schedule -/

/-- What device `d`'s signal hands device `c`: slot `c` of `d`'s receive buffer. -/
def barPay (c d : Dev nD) : sProp 𝕄 := iprop(∃ f, rOn (F := F) d (slot c) f)
/-- What the credit on send semaphore `j` hands `c` back: slot `j` of its send buffer. -/
def sendPay (c j : Dev nD) : sProp 𝕄 := yOn c (slot j) (sent X Y c)
/-- What the credit on receive semaphore `i` hands `c`: its slot `i`, holding device `i`'s block. -/
def recvPay (c i : Dev nD) : sProp 𝕄 := rOn c (slot i) (landed X Y c)

/-- The paying devices of a cell of `c`. -/
def payers (c : Dev nD) : Kind → Finset (Dev nD)
  | none => Finset.univ.erase c
  | some (false, j) => if j = c then ∅ else {c}
  | some (true, i) => if i = c then ∅ else {i}

/-- What a transfer of one slot credits. -/
def credit : ℕ := (cc0_scratch1 : Ref sig .tc).dmaCredit S128x128 .bf16

/-- How much one payment is: a unit on a barrier, a slot's credit on a send or receive semaphore. -/
def units : Kind → ℕ
  | none => 1
  | some _ => credit

def payOf (c : Dev nD) (k : Kind) (d : Dev nD) : sProp 𝕄 :=
  match k with
  | none => barPay c d
  | some (false, j) => sendPay X Y c j
  | some (true, i) => recvPay X Y c i

theorem units_pos (k : Kind) : 0 < units k := by
  cases k with
  | none => exact Nat.one_pos
  | some b => exact sig.dmaCredit_pos _ _ _ _ _ (by decide)

def sched : Rounds.Schedule (GSem nD τ sig) (Dev nD) 𝕄 where
  duties g r := if r = 0 ∧ g.1.2 = .tc then ((kindOf g.2).map (payers g.1.1)).getD ∅ else ∅
  unitless _ := False
  amount g _ _ := ((kindOf g.2).map units).getD 1
  payload g _ d := match kindOf g.2 with
    | some k => payOf X Y g.1.1 k d
    | none => iprop(emp)
  amount_pos g _ _ _ := by
    cases kindOf g.2 with
    | none => exact Nat.one_pos
    | some k => exact units_pos k

instance payOf_storable (c : Dev nD) (k : Kind) (d : Dev nD) : BI.Storable (upEmb : UEmb _ 𝕄) (payOf X Y c k d) := by
  rcases k with _ | ⟨_ | _, j⟩ <;> unfold payOf <;> dsimp only
  · unfold barPay; infer_instance
  · unfold sendPay; infer_instance
  · unfold recvPay; infer_instance

instance sched_payload_storable (g : GSem nD τ sig) (r : ℕ) (d : Dev nD) :
    BI.Storable (upEmb : UEmb _ 𝕄) ((sched X Y).payload g r d) := by
  show BI.Storable upEmb (match kindOf g.2 with
    | some k => payOf X Y g.1.1 k d
    | none => iprop(emp))
  split <;> infer_instance

theorem duties_cell (c : Dev nD) (k : Kind) : (sched X Y).duties (cell c k) 0 = payers c k := by
  dsimp only [sched]; rw [if_pos ⟨rfl, rfl⟩, kindOf_semOf]; rfl
theorem duties_later (g : GSem nD τ sig) : ∀ r, 1 ≤ r → (sched X Y).duties g r = ∅ :=
  fun r hr => if_neg fun h => by omega
/-- The cell of a semaphore no one uses has no duty at any round. -/
theorem duties_idle (c : Dev nD) (b : Bool) : ∀ r, 0 ≤ r → (sched X Y).duties (cell c (some (b, c))) r = ∅ := fun r _ => by
  rcases Nat.eq_zero_or_pos r with rfl | h
  · rw [duties_cell]; cases b <;> exact if_pos rfl
  · exact duties_later X Y _ r h
theorem amount_cell (c : Dev nD) (k : Kind) (r : ℕ) (d : Dev nD) : (sched X Y).amount (cell c k) r d = units k := by
  show ((kindOf (semOf k)).map units).getD 1 = _
  rw [kindOf_semOf]; rfl
theorem payload_cell (c : Dev nD) (k : Kind) (r : ℕ) (d : Dev nD) : (sched X Y).payload (cell c k) r d = payOf X Y c k d := by
  show (match kindOf (semOf k) with
    | some k => payOf X Y c k d
    | none => iprop(emp)) = _
  rw [kindOf_semOf]
theorem expect_cell (c : Dev nD) (k : Kind) : (sched X Y).expect (cell c k) 0 = (payers c k).card * units k := by
  unfold Schedule.expect Schedule.amountOf
  rw [duties_cell, Finset.sum_congr rfl fun d _ => amount_cell X Y c k 0 d, Finset.sum_const, smul_eq_mul]
theorem rest_cell (c : Dev nD) (k : Kind) :
    bigSep ((sched X Y).duties (cell c k) 0 \ ∅) (fun d => (sched X Y).payload (cell c k) 0 d) = bigSep (payers c k) (payOf X Y c k) := by
  rw [Finset.sdiff_empty, duties_cell]
  exact bigSep_congr fun d _ => payload_cell X Y c k 0 d

theorem payers_bar_card (c : Dev nD) : (payers c none).card = 15 := by revert c; decide

/-! ## What each device owes, and the levels -/

/-- The signals device `c` still owes to the devices in `S`, and the transfers still owed to those in `T`. -/
def owe (c : Dev nD) (S T : Finset (Dev nD)) : CellTallies nD τ sig Unit :=
  (∑ j ∈ T, tallyAt (recvCell j c) () credit) + ∑ d ∈ S, tallyAt (barCell d) () 1

theorem owe_signal (c : Dev nD) {d : Dev nD} {S T : Finset (Dev nD)} (h : d ∉ S) :
    owe c (insert d S) T = owe c S T + tallyAt (barCell d) () 1 := by
  unfold owe; rw [Finset.sum_insert h]; ac_rfl
theorem owe_send (c : Dev nD) {j : Dev nD} {T : Finset (Dev nD)} (h : j ∉ T) :
    owe c ∅ (insert j T) = owe c ∅ T + tallyAt (recvCell j c) () credit := by
  unfold owe; rw [Finset.sum_insert h]; ac_rfl
theorem owe_none (c : Dev nD) : owe c ∅ ∅ = 0 := by unfold owe; rw [Finset.sum_empty, Finset.sum_empty, add_zero]

def L (g : GSem nD τ sig) : Finset Unit := if g.1.2 = .tc then {()} else ∅
def levOf : Kind → ℕ
  | none => 1
  | some (false, _) => 0
  | some (true, _) => 2
/-- Barriers at 1, receive semaphores at 2, everything else at 0. -/
def lv (g : GSem nD τ sig) (_ : Unit) : ℕ := ((kindOf g.2).map levOf).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind) (u : Unit) : lv (cell c k) u = levOf k := by
  show ((kindOf (semOf k)).map levOf).getD 0 = _
  rw [kindOf_semOf]; rfl

theorem sum_tally_pos {ι : Type} {S : Finset ι} {f : ι → CellTallies nD τ sig Unit} {g : GSem nD τ sig} {u : Unit}
    (h : 0 < (∑ j ∈ S, f j) g u) : ∃ j ∈ S, 0 < f j g u := by
  classical
  induction S using Finset.induction_on with
  | empty => exact absurd h (Nat.lt_irrefl 0)
  | insert a S ha ih =>
    rw [Finset.sum_insert ha, Pi.add_apply, Finsupp.add_apply] at h
    rcases Nat.eq_zero_or_pos (f a g u) with h0 | h0
    · obtain ⟨j, hj, hp⟩ := ih (by omega)
      exact ⟨j, Finset.mem_insert_of_mem hj, hp⟩
    · exact ⟨a, Finset.mem_insert_self _ _, h0⟩

theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact absurd h (Nat.lt_irrefl 0)

/-- Whatever a device owes lies on a barrier or a receive semaphore; on a receive semaphore once its signals are out. -/
theorem owe_pos {c : Dev nD} {S T : Finset (Dev nD)} {g : GSem nD τ sig} {u : Unit} (h : 0 < owe c S T g u) :
    (∃ j, g = recvCell j c) ∨ (∃ d ∈ S, g = barCell d) := by
  unfold owe at h
  rw [Pi.add_apply, Finsupp.add_apply] at h
  rcases Nat.eq_zero_or_pos ((∑ j ∈ T, tallyAt (recvCell j c) () credit : CellTallies nD τ sig Unit) g u) with h0 | h0
  · obtain ⟨d, hd, hp⟩ := sum_tally_pos (f := fun d => tallyAt (barCell d) () 1) (by rw [h0, Nat.zero_add] at h; exact h)
    exact .inr ⟨d, hd, tally_pos hp⟩
  · obtain ⟨j, hj, hp⟩ := sum_tally_pos (f := fun j => tallyAt (recvCell j c) () credit) h0
    exact .inl ⟨j, tally_pos hp⟩

/-- A device may wait on a semaphore of level 0 whatever of this kind it owes. -/
theorem mayWait_low (c : Dev nD) (sm : SemLoc sig) (hl : ((kindOf sm).map levOf).getD 0 = 0) (S T : Finset (Dev nD)) :
    (levAts L lv : sProp 𝕄) ⊢ MayWait (c : Thread nD τ) sm () (owe c S T) :=
  MayOwe.of_cut (L := L) (lev := lv) 0 (fun p hp => by rw [Finset.mem_singleton.mp hp, L_tc]; exact Finset.mem_singleton_self _)
    (fun g u hg => by rcases owe_pos hg with ⟨j, rfl⟩ | ⟨d, _, rfl⟩ <;> exact Finset.mem_singleton_self _)
    (fun p hp => by rw [Finset.mem_singleton.mp hp]; exact le_of_eq hl)
    (fun g u hg => by
      rcases owe_pos hg with ⟨j, rfl⟩ | ⟨d, _, rfl⟩
      · rw [lv_cell]; exact Nat.succ_pos 1
      · rw [lv_cell]; exact Nat.one_pos)

/-- With its signals out it may wait on its barrier: it owes transfers only. -/
theorem mayWait_bar (c : Dev nD) (T : Finset (Dev nD)) :
    (levAts L lv : sProp 𝕄) ⊢ MayWait (c : Thread nD τ) (.reg barS) () (owe c ∅ T) :=
  MayOwe.of_cut (L := L) (lev := lv) 1 (fun p hp => by rw [Finset.mem_singleton.mp hp, L_tc]; exact Finset.mem_singleton_self _)
    (fun g u hg => by rcases owe_pos hg with ⟨j, rfl⟩ | ⟨d, _, rfl⟩ <;> exact Finset.mem_singleton_self _)
    (fun p hp => by rw [Finset.mem_singleton.mp hp]; exact le_of_eq (lv_cell c none ()))
    (fun g u hg => by
      rcases owe_pos hg with ⟨j, rfl⟩ | ⟨d, hd, rfl⟩
      · rw [lv_cell]; exact Nat.lt_succ_self 1
      · exact absurd hd (Finset.notMem_empty _))

end Cert.Scatter

end
-- ==== Proof.Slots.lean ====
/-
# What the loads, stores and transfers do to the buffers' elements

The elements each view of the kernel covers, and what its writes leave there, in terms of the contents of `Blocks`.
-/
module

public import proofs.«01_k».proof.Proof.Protocol

@[expose] public section

noncomputable section

namespace Cert.Scatter

open Cert.KernelIdeal Cert.KernelIdeal.Gen
open Idealize.ShloMosaic Idealize.ShloMosaic.TcCoe
open Idealize.ShloMosaic.ValueIdx

variable {F : FTy → Type} [FloatOps F]
variable (X : Dev nD → Vec F S128x2048 .f32) (Y : Dev nD → Vec F S2048x2048 .f32)

/-! ## Slots -/

theorem mem_slotRect (j : Dev nD) (off : Fin 3 → Nat) (ho : off = ![j.val, 0, 0]) (h) (i : S16x128x128.Idx) :
    i ∈ (Rect.unit (s := S16x128x128) off S1x128x128.size h).set ↔ i ∈ slot j := by
  subst ho
  rw [Rect.mem_set_unit, mem_slot]
  constructor
  · intro hi
    have h0 : j.val ≤ (i 0).val ∧ (i 0).val < j.val + 1 := hi 0
    omega
  · intro hi a
    fin_cases a
    · show j.val ≤ (i 0).val ∧ (i 0).val < j.val + 1
      omega
    · exact ⟨Nat.zero_le _, (Nat.zero_add 128).symm ▸ (i 1).isLt⟩
    · exact ⟨Nat.zero_le _, (Nat.zero_add 128).symm ▸ (i 2).isLt⟩

theorem slotRect_set (j : Dev nD) (off : Fin 3 → Nat) (ho : off = ![j.val, 0, 0]) (h) :
    (Rect.unit (s := S16x128x128) off S1x128x128.size h).set = slot j := by
  ext i; exact mem_slotRect j off ho h i

theorem y_set (j : Dev nD) (off : Fin 3 → Nat) (ho : off = ![j.val, 0, 0]) (h) (hr) :
    ((yM.slice (Rect.unit (s := S16x128x128) off S1x128x128.size h) hr).squeeze S128x128 squeezes_S1x128x128_S128x128).view.set = slot j := by
  simp only [Memref.view_squeeze, Memref.view_slice, View.set_reshape, Memref.view_whole, View.set_slice_whole]
  exact slotRect_set j off ho h
theorem r_set (j : Dev nD) (off : Fin 3 → Nat) (ho : off = ![j.val, 0, 0]) (h) (hr) :
    ((rM.slice (Rect.unit (s := S16x128x128) off S1x128x128.size h) hr).squeeze S128x128 squeezes_S1x128x128_S128x128).view.set = slot j := by
  simp only [Memref.view_squeeze, Memref.view_slice, View.set_reshape, Memref.view_whole, View.set_slice_whole]
  exact slotRect_set j off ho h
theorem y_access (j : Dev nD) (off : Fin 3 → Nat) (ho : off = ![j.val, 0, 0]) (h) :
    (yM.access (Rect.unit (s := S16x128x128) off S1x128x128.size h)).setOn Finset.univ = slot j := by
  rw [View.setOn_univ]
  exact (View.set_slice_whole _ _).trans (slotRect_set j off ho h)

/-- An index of the slot at `off`, as the buffer's. -/
theorem slot_emb (j : Dev nD) (h) (u : Fin 1) (r k : Fin 128) :
    (Rect.unit (s := S16x128x128) ![j.val, 0, 0] S1x128x128.size h).emb (ix3 u r k) = ix3 (n0 := 16) j r k := by
  funext a
  have hu : u.val = 0 := by omega
  fin_cases a <;> apply Fin.ext
  · show j.val + 1 * u.val = j.val; omega
  · show 0 + 1 * r.val = r.val; omega
  · show 0 + 1 * k.val = k.val; omega

theorem unsqueeze (h : S1x128x128.numel = S128x128.numel) (r k : Fin 128) :
    Shape.reshapeEquiv (s := S1x128x128) (s' := S128x128) h.symm (ix2 r k) = ix3 0 r k :=
  Shape.reshapeEquiv_eq_of_rowMajor _ (by
    rw [Shape.rowMajor_val_three, Shape.rowMajor_val_two]
    show (0 * 128 + r.val) * 128 + k.val = r.val * 128 + k.val
    omega)

theorem numel_eq : S1x128x128.numel = S128x128.numel := by decide

theorem y_emb (j : Dev nD) (h) (hr) (r k : Fin 128) :
    ((yM.slice (Rect.unit (s := S16x128x128) ![j.val, 0, 0] S1x128x128.size h) hr).squeeze S128x128 squeezes_S1x128x128_S128x128).view.emb (ix2 r k)
      = ix3 (n0 := 16) j r k := by
  show (Rect.unit (s := S16x128x128) ![j.val, 0, 0] S1x128x128.size h).emb (Shape.reshapeEquiv (s := S1x128x128) (s' := S128x128) _ (ix2 r k)) = _
  rw [unsqueeze numel_eq, slot_emb]
theorem r_emb (j : Dev nD) (h) (hr) (r k : Fin 128) :
    ((rM.slice (Rect.unit (s := S16x128x128) ![j.val, 0, 0] S1x128x128.size h) hr).squeeze S128x128 squeezes_S1x128x128_S128x128).view.emb (ix2 r k)
      = ix3 (n0 := 16) j r k := by
  show (Rect.unit (s := S16x128x128) ![j.val, 0, 0] S1x128x128.size h).emb (Shape.reshapeEquiv (s := S1x128x128) (s' := S128x128) _ (ix2 r k)) = _
  rw [unsqueeze numel_eq, slot_emb]

/-- An element of slot `j` by its row and column. -/
theorem slot_cases {j : Dev nD} {i : S16x128x128.Idx} (hi : i ∈ slot j) : ∃ r k : Fin 128, i = ix3 (n0 := 16) j r k := by
  refine ⟨i 1, i 2, (eq_ix3 i).trans ?_⟩
  rw [show (i 0 : Fin 16) = j from Fin.ext (mem_slot.mp hi)]
  rfl

/-- The store of block `j`, rounded, into slot `j` leaves there what `sent` says. -/
theorem store_sent (c j : Dev nD) (off : Fin 3 → Nat) (ho : off = ![j.val, 0, 0]) (h) (f : (cc0_scratch0 : Ref sig .tc).ty.Contents (Elt F))
    (w : Vec F S1x128x128 .bf16) (hw : w = k0_pay11 (blk X Y c j)) :
    ∀ i ∈ slot j, (yM.access (Rect.unit (s := S16x128x128) off S1x128x128.size h)).write (Elt F) f w Finset.univ i = sent X Y c i := by
  subst ho hw
  intro i hi
  obtain ⟨r, k, rfl⟩ := slot_cases hi
  refine (congrArg _ (slot_emb j h 0 r k).symm).trans ?_
  refine (View.write_emb_of_mem (v := yM.access (Rect.unit (s := S16x128x128) ![j.val, 0, 0] S1x128x128.size h)) f _ (Finset.mem_univ (ix3 (0 : Fin 1) r k))).trans ?_
  exact narrow_apply _ _ _ _

/-- The transfer of slot `j` of `c`'s send buffer to slot `c` of `j`'s receive buffer leaves there what `landed` says. -/
theorem transfer_landed (c j : Dev nD) (off off' : Fin 3 → Nat) (ho : off = ![j.val, 0, 0]) (ho' : off' = ![c.val, 0, 0]) (h h' hr hr')
    (fd : (cc0_scratch1 : Ref sig .tc).ty.Contents (Elt F)) :
    ∀ i ∈ slot c, ((rM.slice (Rect.unit (s := S16x128x128) off' S1x128x128.size h') hr').squeeze S128x128 squeezes_S1x128x128_S128x128).view.write (Elt F) fd
        (((yM.slice (Rect.unit (s := S16x128x128) off S1x128x128.size h) hr).squeeze S128x128 squeezes_S1x128x128_S128x128).view.read (Elt F) (sent X Y c))
        Finset.univ i = landed X Y j i := by
  subst ho ho'
  intro i hi
  obtain ⟨r, k, rfl⟩ := slot_cases hi
  refine (congrArg _ (r_emb c h' hr' r k).symm).trans ?_
  refine (View.write_emb_of_mem (v := ((rM.slice (Rect.unit (s := S16x128x128) ![c.val, 0, 0] S1x128x128.size h') hr').squeeze S128x128 squeezes_S1x128x128_S128x128).view) fd _ (Finset.mem_univ (ix2 r k))).trans ?_
  show sent X Y c (((yM.slice (Rect.unit (s := S16x128x128) ![j.val, 0, 0] S1x128x128.size h) hr).squeeze S128x128 squeezes_S1x128x128_S128x128).view.emb (ix2 r k)) = _
  rw [y_emb]
  rfl

/-! ## The result -/

/-- Device `c`'s result agrees with its final contents on the row blocks of the devices in `D`. -/
def Agrees (c : Dev nD) (D : Finset (Dev nD)) (f : (cc0_stg2_0 : Ref sig .tc).ty.Contents (Elt F)) : Prop :=
  ∀ i : S2048x128.Idx, (∃ d ∈ D, (i 0).val / 128 = d.val) → f i = final X Y c i

theorem agrees_store (c : Dev nD) {D D' : Finset (Dev nD)} (R : Rect S2048x128) (f : (cc0_stg2_0 : Ref sig .tc).ty.Contents (Elt F))
    (w : R.shape.Idx → Elt F .f32) (hw : ∀ j, w j = final X Y c (R.emb j))
    (hD : ∀ i : S2048x128.Idx, i ∉ R.set → ∀ d ∈ D', (i 0).val / 128 = d.val → d ∈ D) (hf : Agrees X Y c D f) :
    Agrees X Y c D' ((oM.access R).write (Elt F) f w Finset.univ) := by
  intro i hi
  by_cases hm : i ∈ R.set
  · rw [← Rect.map_emb_univ] at hm
    obtain ⟨j, -, rfl⟩ := Finset.mem_map.mp hm
    exact (View.write_emb_of_mem (v := oM.access R) f w (Finset.mem_univ j)).trans (hw j)
  · refine (View.write_of_not_mem (v := oM.access R) f w Finset.univ ?_).trans (hf i ?_)
    · rw [View.setOn_univ]
      have h2 : (oM.access R).set = R.set := View.set_slice_whole _ _
      exact fun h => hm (h2 ▸ h)
    · obtain ⟨d, hd, he⟩ := hi
      exact ⟨d, hD i hm d hd he, he⟩

theorem agrees_univ (c : Dev nD) (f : (cc0_stg2_0 : Ref sig .tc).ty.Contents (Elt F)) (h : Agrees X Y c Finset.univ f) : f = final X Y c :=
  funext fun i => h i ⟨⟨(i 0).val / 128, by have h : (i 0).val < 2048 := (i 0).isLt; show _ < 16; omega⟩, Finset.mem_univ _, rfl⟩

/-- The final contents at row `r` of the row block of device `d`. -/
theorem final_block (c d : Dev nD) (r k : Fin 128) (R : Fin 2048) (hR : R.val = 128 * d.val + r.val) :
    final X Y c (ix2 R k) = if d = c then blk X Y d c (ix2 r k) else wid (nar (blk X Y d c (ix2 r k))) := by
  have h1 : (⟨(ix2 R k 0).val / 128, by have h : R.val < 2048 := R.isLt; show R.val / 128 < 16; omega⟩ : Dev nD) = d :=
    Fin.ext (by show R.val / 128 = d.val; omega)
  have h2 : (⟨(ix2 R k 0).val % 128, Nat.mod_lt _ (by decide)⟩ : Fin 128) = r := Fin.ext (by show R.val % 128 = r.val; omega)
  unfold final
  simp only [h1, h2]

/-- Outside 128 rows that begin at a device's row block, a row's device is another. -/
theorem not_block {d : Dev nD} {off : Fin 2 → Nat} (ho : off = ![128 * d.val, 0]) {h} {i : S2048x128.Idx}
    (hi : i ∉ (Rect.unit (s := S2048x128) off S128x128.size h).set) : (i 0).val / 128 ≠ d.val := by
  subst ho
  intro he
  refine hi (Rect.mem_set_unit.mpr fun a => ?_)
  fin_cases a
  · show 128 * d.val ≤ (i 0).val ∧ (i 0).val < 128 * d.val + 128
    omega
  · exact ⟨Nat.zero_le _, (Nat.zero_add 128).symm ▸ (i 1).isLt⟩

/-- The store of its own block. -/
theorem store_own (c : Dev nD) {D : Finset (Dev nD)} (off : Fin 2 → Nat) (ho : off = ![128 * c.val, 0]) (h)
    (f : (cc0_stg2_0 : Ref sig .tc).ty.Contents (Elt F)) (w : Vec F S128x128 .f32) (hw : w = blk X Y c c) (hf : Agrees X Y c D f) :
    Agrees X Y c (insert c D) ((oM.access (Rect.unit (s := S2048x128) off S128x128.size h)).write (Elt F) f w Finset.univ) := by
  subst hw
  refine agrees_store X Y c _ f _ ?_ ?_ hf
  · subst ho
    intro j
    obtain ⟨r, k, rfl⟩ : ∃ r k : Fin 128, j = ix2 r k := ⟨_, _, eq_ix2 (n0 := 128) (n1 := 128) j⟩
    have he : (Rect.unit (s := S2048x128) ![128 * c.val, 0] S128x128.size h).emb (ix2 r k)
        = ix2 (n0 := 2048) ⟨128 * c.val + r.val, by have := c.isLt; have h' : c.val < 16 := c.isLt; omega⟩ k := by
      funext a
      fin_cases a <;> apply Fin.ext
      · show 128 * c.val + 1 * r.val = 128 * c.val + r.val; omega
      · show 0 + 1 * k.val = k.val; omega
    refine Eq.trans ?_ (congrArg _ he.symm)
    rw [final_block X Y c c r k _ rfl, if_pos rfl]
  · intro i hi d hd he
    rcases Finset.mem_insert.mp hd with rfl | hd
    · exact absurd he (not_block ho hi)
    · exact hd

/-- The copy of the slot landed from `d`, widened. -/
theorem store_slot (c d : Dev nD) (hne : d ≠ c) {D : Finset (Dev nD)} (off : Fin 2 → Nat) (ho : off = ![128 * d.val, 0]) (h)
    (off' : Fin 3 → Nat) (ho' : off' = ![d.val, 0, 0]) (h')
    (f : (cc0_stg2_0 : Ref sig .tc).ty.Contents (Elt F)) (g : (cc0_scratch1 : Ref sig .tc).ty.Contents (Elt F))
    (hg : ∀ i ∈ slot d, g i = landed X Y c i) (hf : Agrees X Y c D f) :
    Agrees X Y c (insert d D) ((oM.access (Rect.unit (s := S2048x128) off S128x128.size h)).write (Elt F) f
      (k0_pay42 (rM.view.readAt (Elt F) (Rect.unit (s := S16x128x128) off' S1x128x128.size h').toLoadRect g)) Finset.univ) := by
  refine agrees_store X Y c _ f _ ?_ ?_ hf
  · subst ho ho'
    intro j
    obtain ⟨r, k, rfl⟩ : ∃ r k : Fin 128, j = ix2 r k := ⟨_, _, eq_ix2 (n0 := 128) (n1 := 128) j⟩
    have he : (Rect.unit (s := S2048x128) ![128 * d.val, 0] S128x128.size h).emb (ix2 r k)
        = ix2 (n0 := 2048) ⟨128 * d.val + r.val, by have h' : d.val < 16 := d.isLt; omega⟩ k := by
      funext a
      fin_cases a <;> apply Fin.ext
      · show 128 * d.val + 1 * r.val = 128 * d.val + r.val; omega
      · show 0 + 1 * k.val = k.val; omega
    refine Eq.trans ?_ (congrArg _ he.symm)
    rw [final_block X Y c d r k _ rfl, if_neg hne, widen_apply]
    refine congrArg wid ?_
    show g ((Rect.unit (s := S16x128x128) ![d.val, 0, 0] S1x128x128.size h').emb (ix3 0 r k)) = _
    rw [slot_emb, hg _ (mem_slot.mpr rfl)]
    rfl
  · intro i hi e he' he
    rcases Finset.mem_insert.mp he' with rfl | hd
    · exact absurd he (not_block ho hi)
    · exact hd

/-- The four devices of quad `q`. -/
def quad (q : Fin 4) : Finset (Dev nD) := Finset.univ.filter fun d => d.val / 4 = q.val
theorem mem_quad {q : Fin 4} {d : Dev nD} : d ∈ quad q ↔ d.val / 4 = q.val := by simp [quad]

/-- The copy of the four slots landed from quad `q`, widened. -/
theorem store_quad (c : Dev nD) (q : Fin 4) (hne : c ∉ quad q) {D : Finset (Dev nD)} (off : Fin 2 → Nat) (ho : off = ![512 * q.val, 0]) (h)
    (off' : Fin 3 → Nat) (ho' : off' = ![4 * q.val, 0, 0]) (h')
    (f : (cc0_stg2_0 : Ref sig .tc).ty.Contents (Elt F)) (g : (cc0_scratch1 : Ref sig .tc).ty.Contents (Elt F))
    (hg : ∀ d ∈ quad q, ∀ i ∈ slot d, g i = landed X Y c i) (hf : Agrees X Y c D f) :
    Agrees X Y c (D ∪ quad q) ((oM.access (Rect.unit (s := S2048x128) off S512x128.size h)).write (Elt F) f
      (k0_pay46 (rM.view.readAt (Elt F) (Rect.unit (s := S16x128x128) off' S4x128x128.size h').toLoadRect g)) Finset.univ) := by
  refine agrees_store X Y c _ f _ ?_ ?_ hf
  · subst ho ho'
    intro j
    obtain ⟨R, k, rfl⟩ : ∃ (R : Fin 512) (k : Fin 128), j = ix2 R k := ⟨_, _, eq_ix2 (n0 := 512) (n1 := 128) j⟩
    have hq := q.isLt
    have hR := R.isLt
    let p : Fin 4 := ⟨R.val / 128, by omega⟩
    let r : Fin 128 := ⟨R.val % 128, Nat.mod_lt _ (by decide)⟩
    let d : Dev nD := ⟨4 * q.val + p.val, by show 4 * q.val + R.val / 128 < 16; omega⟩
    have hRp : R.val = 128 * p.val + r.val := (Nat.div_add_mod R.val 128).symm
    have hd : d ∈ quad q := mem_quad.mpr (by show (4 * q.val + R.val / 128) / 4 = q.val; omega)
    have hdc : d ≠ c := fun e => hne (e ▸ hd)
    have he : (Rect.unit (s := S2048x128) ![512 * q.val, 0] S512x128.size h).emb (ix2 R k)
        = ix2 (n0 := 2048) ⟨512 * q.val + R.val, by omega⟩ k := by
      funext a
      fin_cases a <;> apply Fin.ext
      · show 512 * q.val + 1 * R.val = 512 * q.val + R.val; omega
      · show 0 + 1 * k.val = k.val; omega
    refine Eq.trans ?_ (congrArg _ he.symm)
    rw [final_block X Y c d r k _ (by show 512 * q.val + R.val = 128 * (4 * q.val + p.val) + r.val; omega), if_neg hdc, widen4_apply _ p r k R hRp]
    refine congrArg wid ?_
    have he' : (Rect.unit (s := S16x128x128) ![4 * q.val, 0, 0] S4x128x128.size h').emb (ix3 p r k) = ix3 (n0 := 16) d r k := by
      funext a
      fin_cases a <;> apply Fin.ext
      · show 4 * q.val + 1 * p.val = 4 * q.val + p.val; omega
      · show 0 + 1 * r.val = r.val; omega
      · show 0 + 1 * k.val = k.val; omega
    show g ((Rect.unit (s := S16x128x128) ![4 * q.val, 0, 0] S4x128x128.size h').emb (ix3 p r k)) = _
    rw [he', hg d hd _ (mem_slot.mpr rfl)]
    rfl
  · intro i hi d hd he
    rcases Finset.mem_union.mp hd with hd | hd
    · exact hd
    · subst ho
      refine absurd (Rect.mem_set_unit.mpr fun a => ?_) hi
      have := mem_quad.mp hd
      fin_cases a
      · show 512 * q.val ≤ (i 0).val ∧ (i 0).val < 512 * q.val + 512
        omega
      · exact ⟨Nat.zero_le _, (Nat.zero_add 128).symm ▸ (i 1).isLt⟩

/-- The elements the four-slot load reads lie in the quad's slots. -/
theorem quad_load (q : Fin 4) (off : Fin 3 → Nat) (ho : off = ![4 * q.val, 0, 0]) (h) (i : S16x128x128.Idx)
    (hi : i ∈ (Rect.unit (s := S16x128x128) off S4x128x128.size h).set) : ∃ d ∈ quad q, i ∈ slot d := by
  subst ho
  have h0 : 4 * q.val ≤ (i 0).val ∧ (i 0).val < 4 * q.val + 4 := Rect.mem_set_unit.mp hi 0
  refine ⟨⟨(i 0).val, (i 0).isLt⟩, mem_quad.mpr ?_, mem_slot.mpr rfl⟩
  show (i 0).val / 4 = q.val
  omega

end Cert.Scatter

end
-- ==== Proof.Steps.lean ====
/-
# The states a device passes through, and one lemma per kind of step

The kernel repeats seven kinds of step: a signal to another device's barrier; the wait on its own barrier; the store of
its own block; the store and transfer of another device's block; the wait for a block to land; the copy of landed slots
to the result; the wait for a transfer out to have been read. For each kind: what the device holds before and after,
as a function of the devices still to be treated, and the lemma that runs the step.
-/
module

public import proofs.«01_k».proof.Proof.Slots

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

variable (X : Dev nD → Vec F S128x2048 .f32) (Y : Dev nD → Vec F S2048x2048 .f32) (K : Dev nD × Kind → ℕ)

/-- The barrier semaphore, and one slot of either buffer, as the kernel names them. -/
abbrev barrierS : Sems sig S_ := SemArray.scalar (sig.barrier 0 rfl)
abbrev SlotIn (o : Fin 3 → Nat) : Prop := ∀ a, o a + S1x128x128.size a ≤ S16x128x128.size a
abbrev SemIn (o : Fin 1 → Nat) : Prop := ∀ a, o a + S1.size a ≤ S16.size a
abbrev yAt (o : Fin 3 → Nat) (h : SlotIn o) : Memref sig .tc .vmem S128x128 .bf16 :=
  (yM.slice (Rect.unit (s := S16x128x128) o S1x128x128.size h) (fun _ => rfl)).squeeze S128x128 squeezes_S1x128x128_S128x128
abbrev rAt (o : Fin 3 → Nat) (h : SlotIn o) : Memref sig .tc .vmem S128x128 .bf16 :=
  (rM.slice (Rect.unit (s := S16x128x128) o S1x128x128.size h) (fun _ => rfl)).squeeze S128x128 squeezes_S1x128x128_S128x128
abbrev sendAt (o : Fin 1 → Nat) (h : SemIn o) : DmaSem sig :=
  ((cc0_scratch2.slice (Rect.unit (s := S16) o S1.size h)).squeeze S_ squeezes_S1_S_).sem
abbrev recvAt (o : Fin 1 → Nat) (h : SemIn o) : DmaSem sig :=
  ((cc0_scratch3.slice (Rect.unit (s := S16) o S1.size h)).squeeze S_ squeezes_S1_S_).sem

/-- A big product over one more index is that index's term and the rest. -/
theorem take {s : Finset (Dev nD)} {i : Dev nD} (hi : i ∉ s) {Φ : Dev nD → sProp 𝕄} :
    bigSep (insert i s) Φ = iprop(Φ i ∗ bigSep s Φ) := bigSep_insert hi

/-! ## The records every step may read -/

/-- Every cell's invariant, at its name; that every cell has reached round 0; the levels. -/
def recs : sProp 𝕄 :=
  iprop((bigSep Finset.univ fun ck : Dev nD × Kind => cellInv ER (sched X Y) (K ck) (cell ck.1 ck.2))
    ∗ (bigSep Finset.univ fun ck : Dev nD × Kind => reached ER (cell ck.1 ck.2) 0) ∗ levAts L lv)

instance recs_persistent : BI.Persistent (recs X Y K) := by unfold recs; infer_instance

theorem recs_inv (c : Dev nD) (k : Kind) : recs X Y K ⊢ cellInv ER (sched X Y) (K (c, k)) (cell c k) := by
  unfold recs
  iintro ⟨H, -, -⟩
  iapply (show _ ⊢ _ from bigSep_elim (Φ := fun ck : Dev nD × Kind => cellInv ER (sched X Y) (K ck) (cell ck.1 ck.2)) (Finset.mem_univ (c, k)))
  iexact H
theorem recs_reached (c : Dev nD) (k : Kind) : recs X Y K ⊢ reached ER (cell c k) 0 := by
  unfold recs
  iintro ⟨-, H, -⟩
  iapply (show _ ⊢ _ from bigSep_elim (Φ := fun ck : Dev nD × Kind => (reached ER (cell ck.1 ck.2) 0 : sProp 𝕄)) (Finset.mem_univ (c, k)))
  iexact H
theorem recs_lev : (recs X Y K : sProp 𝕄) ⊢ (levAts L lv : sProp 𝕄) := by
  unfold recs
  iintro ⟨-, -, H⟩
  iexact H

/-- What a device owes, whatever it has waited for. -/
def owesE (c : Dev nD) (O : CellTallies nD τ sig Unit) : sProp 𝕄 := iprop(∃ W, owes (c : Thread nD τ) O W)

/-! ## Signals -/

/-- What the signals to the devices in `S` are paid with. -/
def signals (c : Dev nD) (S : Finset (Dev nD)) : sProp 𝕄 :=
  bigSep S fun d => iprop(dutyTok ER (barCell d) 0 c ∗ ∃ f, rOn (F := F) c (slot d) f)

theorem step_signal {α : Type} {Q : α → sProp 𝕄} (c d n : Dev nD) (hn : n = d) (hne : d ≠ c) {S S' T : Finset (Dev nD)}
    (hS : S = insert d S') (hd : d ∉ S') {k : PUnit → Prog (TpuEff nD τ sig (Elt F) Λ₀ .tc) α} :
    iprop(recs X Y K ∗ owesE c (owe c S T) ∗ signals c S)
      ⊢ iprop(((owesE c (owe c S' T) ∗ signals c S') -∗ wp frame (wpE (defs₀ (F := F)) 𝒱₀ c none) Set.univ (k ⟨⟩) Q)
        -∗ wp frame (wpE (defs₀ (F := F)) 𝒱₀ c none) Set.univ (semSignalWord n barrierS.sem 1#32 >>= k) Q) := by
  subst hn hS
  show _ ⊢ iprop(_ -∗ wp frame (wpE (defs₀ (F := F)) 𝒱₀ c none) Set.univ (.op (.semSignal (n : Thread nD τ) barS 1) k) Q)
  unfold owesE signals
  rw [take hd, owe_signal c hd]
  iintro ⟨#Hr, ⟨%W, HO⟩, ⟨Ht, Hf⟩, Hs⟩ Hk
  iapply (Rounds.wp_signal 𝒱₀ ER (sched X Y) (c : Thread nD τ) none (dst := (n : Thread nD τ)) (sem := barS) (κ := K (n, none)) (r := 0)
      (d := c) (k' := 1) (by rw [show ((n : Thread nD τ), SemLoc.reg barS) = cell n none from rfl, duties_cell]; exact Finset.mem_erase.mpr ⟨hne.symm, Finset.mem_univ _⟩)
      (amount_cell X Y n none 0 c) () (owe c S' T) rfl) $$ [HO Ht Hf]
  · isplitr; · iapply (recs_inv X Y K n none); iexact Hr
    isplitl [HO]; · iexact HO
    isplitl [Ht]; · iexact Ht
    isplitl [Hf]
    · rw [show (sched X Y).payload ((n : Thread nD τ), SemLoc.reg barS) 0 c = barPay n c from payload_cell X Y n none 0 c]
      unfold barPay
      iexact Hf
    · iapply (recs_reached X Y K n none); iexact Hr
  iintro HO
  iapply Hk
  isplitl [HO]; · iexists W; iexact HO
  iexact Hs

/-! ## Waits -/

/-- A wait for all a cell of `c` expects closes the cell: its counter at zero, and everything its payments hand over. -/
theorem wait_cell {α : Type} {Q : α → sProp 𝕄} (c : Dev nD) (κ : Kind) {O : CellTallies nD τ sig Unit} {n : ℕ}
    {w : TpuEff nD τ sig (Elt F) Λ₀ .tc PUnit}
    (hw : ∀ K' : PUnit → sProp 𝕄, wpE (defs₀ (F := F)) 𝒱₀ c none Set.univ w K' = waitSpec (c : Thread nD τ) Set.univ (semOf κ) n K')
    (hn : n = (payers c κ).card * units κ)
    {k : PUnit → Prog (TpuEff nD τ sig (Elt F) Λ₀ .tc) α} :
    iprop(recs X Y K ∗ MayWait (c : Thread nD τ) (semOf κ) () O ∗ owesE c O ∗ cred (tallyAt (cell c κ) () n) ∗ atPos ER (cell c κ) 0 ∅ 0)
      ⊢ iprop(((owesE c O ∗ semVal (cell c κ) 0 ∗ bigSep (payers c κ) (payOf X Y c κ))
          -∗ wp frame (wpE (defs₀ (F := F)) 𝒱₀ c none) Set.univ (k ⟨⟩) Q)
        -∗ wp frame (wpE (defs₀ (F := F)) 𝒱₀ c none) Set.univ (.op w k) Q) := by
  unfold owesE
  iintro ⟨#Hr, Hm, ⟨%W, HO⟩, Hc, Hat⟩ Hk
  iapply (Rounds.wp_wait_rest_token 𝒱₀ ER (sched X Y) (c : Thread nD τ) none (κ := K (c, κ)) hw (Set.mem_univ _) () (O := O) (W := W) (R := 0)
      (m := 0) (T := ∅) (by rw [Nat.zero_add]; exact hn.trans (expect_cell X Y c κ).symm)) $$ [Hm HO Hc Hat]
  · isplitr; · iapply (recs_inv X Y K c κ); iexact Hr
    isplitl [Hc]; · iexact Hc
    isplitl [HO]; · iexact HO
    isplitl [Hm]; · iexact Hm
    iexact Hat
  iintro ⟨HO, Hat, -, Hp⟩
  ihave Hp := (Entails.of_eq (rest_cell X Y c κ)) $$ Hp
  imod (Rounds.cell_close ER (sched X Y) (Set.mem_univ (K (c, κ))) (fun h => h) (R := 0 + 1) (duties_later X Y (cell c κ))) $$ [Hat] with Hz
  · isplitr; · iapply (recs_inv X Y K c κ); iexact Hr
    iexact Hat
  iapply Hk
  isplitl [HO]; · iexists _; iexact HO
  isplitl [Hz]; · iexact Hz
  iexact Hp

set_option maxRecDepth 65536 in
/-- The wait for the fifteen signals. -/
theorem step_barrier {α : Type} {Q : α → sProp 𝕄} (c : Dev nD) (T : Finset (Dev nD)) {k : PUnit → Prog (TpuEff nD τ sig (Elt F) Λ₀ .tc) α} :
    iprop(recs X Y K ∗ owesE c (owe c ∅ T) ∗ cred (tallyAt (barCell c) () 15) ∗ atPos ER (barCell c) 0 ∅ 0)
      ⊢ iprop(((owesE c (owe c ∅ T) ∗ semVal (barCell c) 0 ∗ bigSep (Finset.univ.erase c) (barPay (F := F) c))
          -∗ wp frame (wpE (defs₀ (F := F)) 𝒱₀ c none) Set.univ (k ⟨⟩) Q)
        -∗ wp frame (wpE (defs₀ (F := F)) 𝒱₀ c none) Set.univ (semWaitWord barrierS.sem 15#32 >>= k) Q) := by
  iintro ⟨#Hr, HO, Hc, Hat⟩
  iapply (wait_cell X Y K c none (w := .semWait barS 15) (n := 15) (O := owe c ∅ T) (wpE_semWait_eq 𝒱₀ (c : Thread nD τ) none Set.univ)
    (by rw [payers_bar_card]; rfl)) $$ [HO Hc Hat]
  isplitr; · iexact Hr
  isplitr; · ihave Hl := (recs_lev X Y K) $$ Hr; iapply (mayWait_bar c T); iexact Hl
  isplitl [HO]; · iexact HO
  isplitl [Hc]; · iexact Hc
  iexact Hat

/-- A device's slots, received and still to be received: `R` holds the devices whose turn is to come. -/
def recvs (c : Dev nD) (R : Finset (Dev nD)) : sProp 𝕄 :=
  iprop(owesE c 0
    ∗ (bigSep (R.erase c) fun i => iprop(cred (tallyAt (recvCell c i) () credit) ∗ atPos ER (recvCell c i) 0 ∅ 0))
    ∗ (bigSep (Finset.univ.erase c \ R) fun i => rOn c (slot i) (landed X Y c))
    ∗ bigSep (Finset.univ.erase c \ R) fun i => semVal (recvCell c i) 0)

/-- A device's send slots, read and still to be read by their transfers. -/
def reads (c : Dev nD) (R : Finset (Dev nD)) : sProp 𝕄 :=
  iprop(owesE c 0
    ∗ (bigSep (R.erase c) fun j => iprop(cred (tallyAt (sendCell c j) () credit) ∗ atPos ER (sendCell c j) 0 ∅ 0))
    ∗ (bigSep (Finset.univ.erase c \ R) fun j => yOn c (slot j) (sent X Y c))
    ∗ bigSep (Finset.univ.erase c \ R) fun j => semVal (sendCell c j) 0)

theorem erase_other {c j : Dev nD} (hj : j ≠ c) (R : Finset (Dev nD)) : (insert j R).erase c = insert j (R.erase c) :=
  Finset.erase_insert_of_ne hj
theorem erase_self {c : Dev nD} (R : Finset (Dev nD)) : (insert c R).erase c = R.erase c := Finset.erase_insert_eq_erase R c
theorem treat_other {c j : Dev nD} (hj : j ≠ c) {R : Finset (Dev nD)} (h : j ∉ R) :
    Finset.univ.erase c \ R = insert j (Finset.univ.erase c \ insert j R) := by
  ext d
  simp only [Finset.mem_sdiff, Finset.mem_erase, Finset.mem_univ, and_true, Finset.mem_insert, not_or]
  constructor
  · intro hd
    by_cases e : d = j
    · exact .inl e
    · exact .inr ⟨hd.1, e, hd.2⟩
  · rintro (rfl | hd)
    · exact ⟨hj, h⟩
    · exact ⟨hd.1, hd.2.2⟩
theorem treat_self {c : Dev nD} (R : Finset (Dev nD)) : Finset.univ.erase c \ insert c R = Finset.univ.erase c \ R := by
  ext d
  simp only [Finset.mem_sdiff, Finset.mem_erase, Finset.mem_univ, and_true, Finset.mem_insert, not_or]
  exact ⟨fun hd => ⟨hd.1, hd.2.2⟩, fun hd => ⟨hd.1, hd.1, hd.2⟩⟩
theorem not_treated {c j : Dev nD} (R : Finset (Dev nD)) : j ∉ Finset.univ.erase c \ insert j R :=
  fun h => (Finset.mem_sdiff.mp h).2 (Finset.mem_insert_self j R)
theorem not_left {c j : Dev nD} {R : Finset (Dev nD)} (h : j ∉ R) : j ∉ R.erase c := fun h' => h (Finset.mem_of_mem_erase h')

theorem payers_recv {c i : Dev nD} (h : i ≠ c) : payers c (some (true, i)) = {i} := if_neg h
theorem payers_send {c j : Dev nD} (h : j ≠ c) : payers c (some (false, j)) = {c} := if_neg h

/-- The wait for device `i`'s block, if `i` is another device. -/
theorem step_recv {α : Type} {Q : α → sProp 𝕄} (c i : Dev nD) {R R' : Finset (Dev nD)} (hR : R = insert i R' ∧ i ∉ R')
    {b : BitVec 1} (hb : b = 1#1 ↔ i ≠ c) {o1 : Fin 1 → Nat} {o3 : Fin 3 → Nat} (h1 : o1 = ![i.val]) (h3 : o3 = ![i.val, 0, 0])
    {i1 : b = 1#1 → SemIn o1} {i3 : b = 1#1 → SlotIn o3} {u : ∀ h, (rAt o3 (i3 h)).view.WordExact} {u' : ∀ h, (rAt o3 (i3 h)).view.WordExact}
    {k : Prog (TpuEff nD τ sig (Elt F) Λ₀ .tc) α} :
    iprop(recs X Y K ∗ recvs X Y c R)
      ⊢ iprop((recvs X Y c R' -∗ wp frame (wpE (defs₀ (F := F)) 𝒱₀ c none) Set.univ k Q)
        -∗ wp frame (wpE (defs₀ (F := F)) 𝒱₀ c none) Set.univ
          (if h : b = 1#1 then
            Prog.lift (.waitDma2 (recvAt o1 (i1 h)) (rAt o3 (i3 h)) (rAt o3 (i3 h)) (u h) (u' h)) >>= fun _ => k
          else k) Q) := by
  obtain ⟨rfl, hi⟩ := hR
  unfold recvs
  by_cases hc : i = c
  · rw [dif_neg (fun h => hb.mp h hc)]
    subst hc
    rw [erase_self, treat_self]
    iintro ⟨-, H⟩ Hk
    iapply Hk
    iexact H
  · rw [dif_pos (hb.mpr hc), erase_other hc, take (not_left hi), treat_other hc hi, take (not_treated _), take (not_treated _)]
    have hs : recvAt o1 (i1 (hb.mpr hc)) = recvS i := recvS_slice i o1 h1 _
    iintro ⟨#Hr, HO, ⟨⟨Hc, Hat⟩, Hrest⟩, Hland, Hz⟩ Hk
    iapply (wait_cell X Y K c (some (true, i)) (n := credit) (O := 0)
      (fun K' => (wpE_waitDma2_eq 𝒱₀ (c : Thread nD τ) none Set.univ K').trans (by rw [hs]; rfl))
      (by rw [payers_recv hc, Finset.card_singleton, one_mul]; rfl)) $$ [HO Hc Hat]
    · isplitr; · iexact Hr
      isplitr; · rw [MayWait_zero]; iempintro
      isplitl [HO]; · iexact HO
      isplitl [Hc]; · iexact Hc
      iexact Hat
    iintro ⟨HO, Hzi, Hp⟩
    ihave Hp := (show bigSep (payers c (some (true, i))) (payOf X Y c (some (true, i))) ⊢ rOn c (slot i) (landed X Y c) from by
      rw [payers_recv hc, bigSep_singleton]; exact .rfl) $$ Hp
    iapply Hk
    isplitl [HO]; · iexact HO
    isplitl [Hrest]; · iexact Hrest
    isplitl [Hp Hland]
    · isplitl [Hp]; · iexact Hp
      iexact Hland
    isplitl [Hzi]; · iexact Hzi
    iexact Hz

end Cert.Scatter

end
-- ==== Proof.Moves.lean ====
/-
# The steps that move blocks

The store of a device's own block into its result, the store and transfer of another device's block, the wait until that
transfer has read its slot, and the copies of landed slots into the result.
-/
module

public import proofs.«01_k».proof.Proof.Steps

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → Vec F S128x2048 .f32) (Y : Dev nD → Vec F S2048x2048 .f32) (K : Dev nD × Kind → ℕ)

/-! ## Waits for the transfers out -/

/-- The wait until the transfer to device `j` has read its slot, if `j` is another device. -/
theorem step_read {α : Type} {Q : α → sProp 𝕄} (c j : Dev nD) {R R' : Finset (Dev nD)} (hR : R = insert j R' ∧ j ∉ R')
    {b : BitVec 1} (hb : b = 1#1 ↔ j ≠ c) {o1 : Fin 1 → Nat} {o3 : Fin 3 → Nat} (h1 : o1 = ![j.val]) (h3 : o3 = ![j.val, 0, 0])
    {i1 : b = 1#1 → SemIn o1} {i3 : b = 1#1 → SlotIn o3} {u : ∀ h, (yAt o3 (i3 h)).view.WordExact} {u' : ∀ h, (yAt o3 (i3 h)).view.WordExact}
    {k : Prog (TpuEff nD τ sig (Elt F) Λ₀ .tc) α} :
    iprop(recs X Y K ∗ reads X Y c R)
      ⊢ iprop((reads X Y c R' -∗ wp frame (wpE (defs₀ (F := F)) 𝒱₀ c none) Set.univ k Q)
        -∗ wp frame (wpE (defs₀ (F := F)) 𝒱₀ c none) Set.univ
          (if h : b = 1#1 then
            Prog.lift (.waitDma2 (sendAt o1 (i1 h)) (yAt o3 (i3 h)) (yAt o3 (i3 h)) (u h) (u' h)) >>= fun _ => k
          else k) Q) := by
  obtain ⟨rfl, hi⟩ := hR
  unfold reads
  by_cases hc : j = c
  · rw [dif_neg (fun h => hb.mp h hc)]
    subst hc
    rw [erase_self, treat_self]
    iintro ⟨-, H⟩ Hk
    iapply Hk
    iexact H
  · rw [dif_pos (hb.mpr hc), erase_other hc, take (not_left hi), treat_other hc hi, take (not_treated _), take (not_treated _)]
    have hs : sendAt o1 (i1 (hb.mpr hc)) = sendS j := sendS_slice j o1 h1 _
    iintro ⟨#Hr, HO, ⟨⟨Hc, Hat⟩, Hrest⟩, Hland, Hz⟩ Hk
    iapply (wait_cell X Y K c (some (false, j)) (n := credit) (O := 0)
      (fun K' => (wpE_waitDma2_eq 𝒱₀ (c : Thread nD τ) none Set.univ K').trans (by rw [hs]; rfl))
      (by rw [payers_send hc, Finset.card_singleton, one_mul]; rfl)) $$ [HO Hc Hat]
    · isplitr; · iexact Hr
      isplitr; · rw [MayWait_zero]; iempintro
      isplitl [HO]; · iexact HO
      isplitl [Hc]; · iexact Hc
      iexact Hat
    iintro ⟨HO, Hzi, Hp⟩
    ihave Hp := (show bigSep (payers c (some (false, j))) (payOf X Y c (some (false, j))) ⊢ yOn c (slot j) (sent X Y c) from by
      rw [payers_send hc, bigSep_singleton]; exact .rfl) $$ Hp
    iapply Hk
    isplitl [HO]; · iexact HO
    isplitl [Hrest]; · iexact Hrest
    isplitl [Hp Hland]
    · isplitl [Hp]; · iexact Hp
      iexact Hland
    isplitl [Hzi]; · iexact Hzi
    iexact Hz

/-! ## The result -/

/-- Device `c`'s result buffer, which agrees with its final contents on the row blocks of the devices in `D`. -/
def outOn (c : Dev nD) (D : Finset (Dev nD)) : sProp 𝕄 :=
  iprop(∃ f, ⌜Agrees X Y c D f⌝ ∗ ((c : Thread nD τ).loc cc0_stg2_0) ↦[Finset.univ]{fullShare} f)

/-- The store of its own block, if it is block `j`'s turn and `j` is `c`. -/
theorem step_own {α : Type} {Q : α → sProp 𝕄} (c j : Dev nD) {D D' : Finset (Dev nD)} (hD : ∀ d ∈ D', d ∈ D ∨ (j = c ∧ d = c))
    {b : BitVec 1} (hb : b = 1#1 ↔ j = c) {o : Fin 2 → Nat} (ho : o = ![128 * c.val, 0])
    {w : Vec F S128x128 .f32} (hw : w = blk X Y c j)
    {i2 : b = 1#1 → ∀ a, o a + S128x128.size a ≤ S2048x128.size a}
    {u : ∀ h, oM.view.LoadsAt (Rect.unit (s := S2048x128) o S128x128.size (i2 h)).toLoadRect}
    {u' : ∀ h, (oM.access (Rect.unit (s := S2048x128) o S128x128.size (i2 h))).Stores Finset.univ}
    {k : Prog (TpuEff nD τ sig (Elt F) Λ₀ .tc) α} :
    outOn X Y c D
      ⊢ iprop((outOn X Y c D' -∗ wp frame (wpE (defs₀ (F := F)) 𝒱₀ c none) Set.univ k Q)
        -∗ wp frame (wpE (defs₀ (F := F)) 𝒱₀ c none) Set.univ
          (if h : b = 1#1 then
            Prog.lift (.load oM (Rect.unit (s := S2048x128) o S128x128.size (i2 h)).toLoadRect (u h)) >>= fun _ =>
            Prog.lift (.store oM (Rect.unit (s := S2048x128) o S128x128.size (i2 h)) w Finset.univ (u' h) (.inl rfl)) >>= fun _ => k
          else k) Q) := by
  unfold outOn
  by_cases hc : j = c
  · have hb' := hb.mpr hc
    rw [dif_pos hb']
    subst hc
    simp only [Prog.bind_lift]
    iintro ⟨%f, %hf, Ho⟩ Hk
    iapply (wp_load 𝒱₀ (j : Thread nD τ) none Set.univ (m := oM) (Finset.subset_univ _)) $$ Ho; iintro Ho
    iapply (wp_store 𝒱₀ (j : Thread nD τ) none Set.univ (m := oM) (r := Rect.unit (s := S2048x128) o S128x128.size (i2 hb')) (Mk := Finset.univ) (Finset.subset_univ _)) $$ Ho; iintro Ho
    iapply Hk
    iexists _
    isplitr
    rotate_left
    · iexact Ho
    · ipureintro
      intro i hi
      refine store_own X Y j o ho _ f w hw hf i ?_
      obtain ⟨d, hd, he⟩ := hi
      refine ⟨d, ?_, he⟩
      rcases hD d hd with h | h
      · exact Finset.mem_insert_of_mem h
      · exact h.2 ▸ Finset.mem_insert_self _ _
  · rw [dif_neg (fun h => hc (hb.mp h))]
    iintro ⟨%f, %hf, Ho⟩ Hk
    iapply Hk
    iexists f
    isplitr
    · ipureintro
      intro i hi
      obtain ⟨d, hd, he⟩ := hi
      refine hf i ⟨d, ?_, he⟩
      rcases hD d hd with h | h
      · exact h
      · exact absurd h.1 hc
    · iexact Ho

/-! ## Transfers -/

/-- Device `c`'s transfers, issued and still to be issued: `R` holds the devices whose turn is to come. -/
def sends (c : Dev nD) (R : Finset (Dev nD)) : sProp 𝕄 :=
  iprop(owesE c (owe c ∅ (R.erase c))
    ∗ (bigSep (R.erase c) fun j => iprop(dutyTok ER (sendCell c j) 0 c ∗ dutyTok ER (recvCell j c) 0 c
        ∗ (∃ f, yOn (F := F) c (slot j) f) ∗ ∃ f, rOn (F := F) j (slot c) f))
    ∗ bigSep (Finset.univ.erase c \ R) fun j => cred (tallyAt (sendCell c j) () credit))

/-- The store of block `j` into its slot and its transfer, if `j` is another device. -/
theorem step_send {α : Type} {Q : α → sProp 𝕄} (c j : Dev nD) {R R' : Finset (Dev nD)} (hR : R = insert j R' ∧ j ∉ R')
    {b : BitVec 1} (hb : b = 1#1 ↔ j ≠ c) {o3 : Fin 3 → Nat} {o4 o5 : Fin 1 → Nat} {o6 o7 : Fin 3 → Nat} {n : ℕ}
    (ho : o3 = ![j.val, 0, 0] ∧ o4 = ![j.val] ∧ o5 = ![c.val] ∧ o6 = ![c.val, 0, 0] ∧ o7 = ![j.val, 0, 0] ∧ n = j.val)
    {w : Vec F S1x128x128 .bf16} (hw : w = k0_pay11 (blk X Y c j))
    {i3 : b = 1#1 → SlotIn o3} {i4 : b = 1#1 → SemIn o4} {i5 : b = 1#1 → SemIn o5} {i6 : b = 1#1 → SlotIn o6} {i7 : b = 1#1 → SlotIn o7}
    {hn : b = 1#1 → n < nD}
    {u : ∀ h, yM.view.LoadsAt (Rect.unit (s := S16x128x128) o3 S1x128x128.size (i3 h)).toLoadRect}
    {u' : ∀ h, (yM.access (Rect.unit (s := S16x128x128) o3 S1x128x128.size (i3 h))).Stores Finset.univ}
    {v : ∀ h, (yAt o7 (i7 h)).view.WordExact} {v' : ∀ h, (rAt o6 (i6 h)).view.WordExact}
    {k : Prog (TpuEff nD τ sig (Elt F) Λ₀ .tc) α} :
    iprop(recs X Y K ∗ sends c R)
      ⊢ iprop((sends c R' -∗ wp frame (wpE (defs₀ (F := F)) 𝒱₀ c none) Set.univ k Q)
        -∗ wp frame (wpE (defs₀ (F := F)) 𝒱₀ c none) Set.univ
          (if h : b = 1#1 then
            Prog.lift (.load yM (Rect.unit (s := S16x128x128) o3 S1x128x128.size (i3 h)).toLoadRect (u h)) >>= fun _ =>
            Prog.lift (.store yM (Rect.unit (s := S16x128x128) o3 S1x128x128.size (i3 h)) w Finset.univ (u' h) (.inl rfl)) >>= fun _ =>
            Prog.lift (.enqueueDma (yAt o7 (i7 h)) (.remote (Dev.tc (⟨n, hn h⟩ : Dev nD)) (rAt o6 (i6 h)) (.dma (sendAt o4 (i4 h))))
              (.dma (recvAt o5 (i5 h))) (v h) (v' h) ⟨⟨rfl, Or.inl rfl⟩, trivial⟩) >>= fun _ => k
          else k) Q) := by
  obtain ⟨rfl, hi⟩ := hR
  obtain ⟨h3, h4, h5, h6, h7, rfl⟩ := ho
  unfold sends
  by_cases hc : j = c
  · rw [dif_neg (fun h => hb.mp h hc)]
    subst hc
    rw [erase_self, treat_self]
    iintro ⟨-, H⟩ Hk
    iapply Hk
    iexact H
  · have hb' := hb.mpr hc
    rw [dif_pos hb', erase_other hc, take (not_left hi), treat_other hc hi, take (not_treated _), owe_send c (not_left hi)]
    have hs : sendAt o4 (i4 hb') = sendS j := sendS_slice j o4 h4 _
    have hr : recvAt o5 (i5 hb') = recvS c := recvS_slice c o5 h5 _
    have hy : (yAt o7 (i7 hb')).view.set = slot j := y_set j o7 h7 _ _
    have hrs : (rAt o6 (i6 hb')).view.set = slot c := r_set c o6 h6 _ _
    simp only [Prog.bind_lift]
    unfold owesE
    iintro ⟨#Hr, ⟨%W, HO⟩, ⟨⟨Ht, Ht', ⟨%fy, Hy⟩, ⟨%fr, Hd⟩⟩, Hrest⟩, Hcr⟩ Hk
    iapply (wp_load 𝒱₀ (c : Thread nD τ) none Set.univ (m := yM) (S := slot j) (by
      intro i hm
      obtain ⟨a, ha, rfl⟩ := Finset.mem_map.mp hm
      exact (mem_slotRect j o3 h3 (i3 hb') a).mp ha)) $$ Hy; iintro Hy
    iapply (wp_store 𝒱₀ (c : Thread nD τ) none Set.univ (m := yM) (r := Rect.unit (s := S16x128x128) o3 S1x128x128.size (i3 hb')) (Mk := Finset.univ) (S := slot j) (by
      rw [y_access j o3 h3])) $$ Hy; iintro Hy
    ihave Hy := (Entails.of_eq (pointsTo_congr (store_sent X Y c j o3 h3 (i3 hb') fy w hw))) $$ Hy
    rw [hs, hr]
    iapply (Rounds.wp_send_pointsTo 𝒱₀ ER (sched X Y) (c : Thread nD τ) none (c' := (j : Thread nD τ)) (src := yAt o7 (i7 hb'))
        (dst := rAt o6 (i6 hb')) (sS := .dma (sendS j)) (sem := .dma (recvS c)) (q := fullShare) (fs := sent X Y c) (fd := fr)
        (r₁ := 0) (r₂ := 0) (d₁ := c) (d₂ := c) (κ₁ := K (c, some (false, j))) (κ₂ := K (j, some (true, c)))
        (by rw [show ((c : Thread nD τ), SemLoc.dma (sendS j)) = cell c (some (false, j)) from rfl, duties_cell, payers_send hc]; exact Finset.mem_singleton_self _)
        (by rw [show ((j : Thread nD τ), SemLoc.dma (recvS c)) = cell j (some (true, c)) from rfl, duties_cell, payers_recv (Ne.symm hc)]; exact Finset.mem_singleton_self _)
        () () credit rfl (amount_cell X Y c (some (false, j)) 0 c) (amount_cell X Y j (some (true, c)) 0 c) (owe c ∅ (R'.erase c)) rfl
        (by rw [show ((c : Thread nD τ), SemLoc.dma (sendS j)) = cell c (some (false, j)) from rfl, payload_cell, hy]; exact .rfl)
        (by
          rw [show ((j : Thread nD τ), SemLoc.dma (recvS c)) = cell j (some (true, c)) from rfl, payload_cell, hrs]
          exact Entails.of_eq (pointsTo_congr (transfer_landed X Y c j o7 o6 h7 h6 _ _ _ _ fr)))) $$ [HO Ht Ht' Hy Hd]
    · isplitr; · iapply (recs_inv X Y K c (some (false, j))); iexact Hr
      isplitr; · iapply (recs_inv X Y K j (some (true, c))); iexact Hr
      isplitl [Hy]; · rw [hy]; iexact Hy
      isplitl [Hd]; · rw [hrs]; iexact Hd
      isplitl [HO]; · iexact HO
      isplitl [Ht]; · iexact Ht
      isplitr; · iapply (recs_reached X Y K c (some (false, j))); iexact Hr
      isplitl [Ht']; · iexact Ht'
      iapply (recs_reached X Y K j (some (true, c))); iexact Hr
    iintro ⟨Hcr', HO⟩
    iapply Hk
    isplitl [HO]; · iexists W; iexact HO
    isplitl [Hrest]; · iexact Hrest
    isplitl [Hcr']; · iexact Hcr'
    iexact Hcr

/-! ## Copies of landed slots -/

theorem split_off {s t : Finset (Dev nD)} (h : t ⊆ s) {Φ : Dev nD → sProp 𝕄} :
    bigSep s Φ = iprop(bigSep t Φ ∗ bigSep (s \ t) Φ) := BI.bigSep_sdiff_split h

/-- The copy of the slot landed from device `d`, if `d` is another device. -/
theorem step_copy {α : Type} {Q : α → sProp 𝕄} (c d : Dev nD) {R D : Finset (Dev nD)} (hd : d ∉ R) (hD : c ∈ D)
    {b : BitVec 1} (hb : b = 1#1 ↔ d ≠ c) {o : Fin 2 → Nat} {o3 : Fin 3 → Nat} (ho : o = ![128 * d.val, 0] ∧ o3 = ![d.val, 0, 0])
    {i2 : b = 1#1 → ∀ a, o a + S128x128.size a ≤ S2048x128.size a} {i3 : b = 1#1 → SlotIn o3}
    {v : ∀ h, rM.view.LoadsAt (Rect.unit (s := S16x128x128) o3 S1x128x128.size (i3 h)).toLoadRect}
    {u : ∀ h, oM.view.LoadsAt (Rect.unit (s := S2048x128) o S128x128.size (i2 h)).toLoadRect}
    {u' : ∀ h, (oM.access (Rect.unit (s := S2048x128) o S128x128.size (i2 h))).Stores Finset.univ}
    {k : Prog (TpuEff nD τ sig (Elt F) Λ₀ .tc) α} :
    iprop(recvs X Y c R ∗ outOn X Y c D)
      ⊢ iprop(((recvs X Y c R ∗ outOn X Y c (insert d D)) -∗ wp frame (wpE (defs₀ (F := F)) 𝒱₀ c none) Set.univ k Q)
        -∗ wp frame (wpE (defs₀ (F := F)) 𝒱₀ c none) Set.univ
          (if h : b = 1#1 then
            Prog.lift (.load rM (Rect.unit (s := S16x128x128) o3 S1x128x128.size (i3 h)).toLoadRect (v h)) >>= fun a : Vec F S1x128x128 .bf16 =>
            Prog.lift (.load oM (Rect.unit (s := S2048x128) o S128x128.size (i2 h)).toLoadRect (u h)) >>= fun _ =>
            Prog.lift (.store oM (Rect.unit (s := S2048x128) o S128x128.size (i2 h)) (k0_pay42 a) Finset.univ (u' h) (.inl rfl)) >>= fun _ => k
          else k) Q) := by
  obtain ⟨h2, h3⟩ := ho
  by_cases hc : d = c
  · rw [dif_neg (fun h => hb.mp h hc)]
    subst hc
    rw [Finset.insert_eq_of_mem hD]
    iintro H Hk
    iapply Hk
    iexact H
  · have hb' := hb.mpr hc
    rw [dif_pos hb']
    unfold recvs outOn
    rw [split_off (s := Finset.univ.erase c \ R) (t := {d}) (Finset.singleton_subset_iff.mpr (Finset.mem_sdiff.mpr ⟨Finset.mem_erase.mpr ⟨hc, Finset.mem_univ _⟩, hd⟩))
      (Φ := fun i => rOn c (slot i) (landed X Y c)), bigSep_singleton]
    simp only [Prog.bind_lift]
    iintro ⟨⟨HO, Hrest, ⟨Hd, Hland⟩, Hz⟩, ⟨%f, %hf, Ho⟩⟩ Hk
    iapply (wp_load 𝒱₀ (c : Thread nD τ) none Set.univ (m := rM) (S := slot d) (by
      intro i hm
      obtain ⟨a, ha, rfl⟩ := Finset.mem_map.mp hm
      exact (mem_slotRect d o3 h3 (i3 hb') a).mp ha)) $$ Hd; iintro Hd
    iapply (wp_load 𝒱₀ (c : Thread nD τ) none Set.univ (m := oM) (Finset.subset_univ _)) $$ Ho; iintro Ho
    iapply (wp_store 𝒱₀ (c : Thread nD τ) none Set.univ (m := oM) (r := Rect.unit (s := S2048x128) o S128x128.size (i2 hb')) (Mk := Finset.univ) (Finset.subset_univ _)) $$ Ho; iintro Ho
    iapply Hk
    isplitl [HO Hrest Hd Hland Hz]
    · isplitl [HO]; · iexact HO
      isplitl [Hrest]; · iexact Hrest
      isplitl [Hd Hland]
      · isplitl [Hd]; · iexact Hd
        iexact Hland
      iexact Hz
    iexists _
    isplitr
    rotate_left
    · iexact Ho
    · ipureintro
      exact store_slot X Y c d hc o h2 _ o3 h3 _ f _ (fun i _ => rfl) hf

/-- Slots held one by one are their union held at once. -/
theorem slots_join (c : Dev nD) (S : Finset (Dev nD)) {f : (cc0_scratch1 : Ref sig .tc).ty.Contents (Elt F)} :
    (rOn c (S.biUnion slot) f : sProp 𝕄) = bigSep S fun i => rOn c (slot i) f :=
  pointsTo_biUnion (ℓ := (c : Thread nD τ).loc cc0_scratch1) S slot (fun _ _ _ _ h => slot_disjoint h)

/-- The copy of the four slots landed from quad `q`, none of which is the device itself. -/
theorem step_quad {α : Type} {Q : α → sProp 𝕄} (c : Dev nD) (q : Fin 4) {R D : Finset (Dev nD)} (hq : ∀ d ∈ quad q, d ≠ c ∧ d ∉ R)
    {o : Fin 2 → Nat} {o3 : Fin 3 → Nat} (ho : o = ![512 * q.val, 0] ∧ o3 = ![4 * q.val, 0, 0])
    {i2 : ∀ a, o a + S512x128.size a ≤ S2048x128.size a} {i3 : ∀ a, o3 a + S4x128x128.size a ≤ S16x128x128.size a}
    {v : rM.view.LoadsAt (Rect.unit (s := S16x128x128) o3 S4x128x128.size i3).toLoadRect}
    {u : oM.view.LoadsAt (Rect.unit (s := S2048x128) o S512x128.size i2).toLoadRect}
    {u' : (oM.access (Rect.unit (s := S2048x128) o S512x128.size i2)).Stores Finset.univ}
    {k : PUnit → Prog (TpuEff nD τ sig (Elt F) Λ₀ .tc) α} :
    iprop(recvs X Y c R ∗ outOn X Y c D)
      ⊢ iprop(((recvs X Y c R ∗ outOn X Y c (D ∪ quad q)) -∗ wp frame (wpE (defs₀ (F := F)) 𝒱₀ c none) Set.univ (k ⟨⟩) Q)
        -∗ wp frame (wpE (defs₀ (F := F)) 𝒱₀ c none) Set.univ
          (Prog.lift (.load rM (Rect.unit (s := S16x128x128) o3 S4x128x128.size i3).toLoadRect v) >>= fun a : Vec F S4x128x128 .bf16 =>
            Prog.lift (.load oM (Rect.unit (s := S2048x128) o S512x128.size i2).toLoadRect u) >>= fun _ =>
            Prog.lift (.store oM (Rect.unit (s := S2048x128) o S512x128.size i2) (k0_pay46 a) Finset.univ u' (.inl rfl)) >>= k) Q) := by
  obtain ⟨h2, h3⟩ := ho
  unfold recvs outOn
  rw [split_off (s := Finset.univ.erase c \ R) (t := quad q) (fun d hd => Finset.mem_sdiff.mpr ⟨Finset.mem_erase.mpr ⟨(hq d hd).1, Finset.mem_univ _⟩, (hq d hd).2⟩)
    (Φ := fun i => rOn c (slot i) (landed X Y c)),
    ← slots_join c (quad q)]
  simp only [Prog.bind_lift]
  iintro ⟨⟨HO, Hrest, ⟨Hd, Hland⟩, Hz⟩, ⟨%f, %hf, Ho⟩⟩ Hk
  iapply (wp_load 𝒱₀ (c : Thread nD τ) none Set.univ (m := rM) (S := (quad q).biUnion slot) (by
    intro i hm
    obtain ⟨a, ha, rfl⟩ := Finset.mem_map.mp hm
    obtain ⟨d, hd, h⟩ := quad_load q o3 h3 i3 a ha
    exact Finset.mem_biUnion.mpr ⟨d, hd, h⟩)) $$ Hd; iintro Hd
  iapply (wp_load 𝒱₀ (c : Thread nD τ) none Set.univ (m := oM) (Finset.subset_univ _)) $$ Ho; iintro Ho
  iapply (wp_store 𝒱₀ (c : Thread nD τ) none Set.univ (m := oM) (r := Rect.unit (s := S2048x128) o S512x128.size i2) (Mk := Finset.univ) (Finset.subset_univ _)) $$ Ho; iintro Ho
  iapply Hk
  isplitl [HO Hrest Hd Hland Hz]
  · isplitl [HO]; · iexact HO
    isplitl [Hrest]; · iexact Hrest
    isplitl [Hd Hland]
    · isplitl [Hd]; · iexact Hd
      iexact Hland
    iexact Hz
  iexists _
  isplitr
  rotate_left
  · iexact Ho
  · ipureintro
    exact store_quad X Y c q (fun h => (hq c h).1 rfl) o h2 _ o3 h3 _ f _ (fun d _ i _ => rfl) hf

end Cert.Scatter

end
-- ==== Proof.Order.lean ====
/-
# The order in which a device treats the others

Each of the kernel's four sweeps goes through all sixteen devices in a fixed order that depends on the device: the signals,
the blocks computed, the blocks received, and the transfers out waited for. Here: the orders, what is left of a sweep after
its first `n` turns, and that each turn takes one device off what is left.
-/
module

public import proofs.«01_k».proof.Proof.Moves

@[expose] public section

noncomputable section

namespace Cert.Scatter

open Cert.KernelIdeal Cert.KernelIdeal.Gen
open Idealize.ShloMosaic Idealize.ShloMosaic.TcCoe
open Idealize.ShloMosaic.ValueIdx

variable {F : FTy → Type} [FloatOps F]

/-- A fact about the devices is proved for all of them and used at one. -/
theorem at_dev {p : Dev nD → Prop} (c : Dev nD) (h : ∀ c, p c) : p c := h c

/-- The quad whose product is the `g`-th device `c` computes, and the quad it copies `g`-th into its result. -/
def outQ (c : Dev nD) (g : ℕ) : Fin 4 := ⟨(c.val / 4 + g) % 4, Nat.mod_lt _ (by decide)⟩
def inQ (c : Dev nD) (g : ℕ) : Fin 4 := ⟨(c.val / 4 + 4 - g) % 4, Nat.mod_lt _ (by decide)⟩

/-- Device `4 q + r`. -/
def member (q : Fin 4) (r : ℕ) : Dev nD := ⟨4 * q.val + r % 4, by show _ < 16; have := q.isLt; omega⟩

/-- The `n`-th device in the order of the signals, of the blocks computed, of the blocks received, of the final waits. -/
def sigTo (c : Dev nD) (n : ℕ) : Dev nD := ⟨(c.val + n) % 16, Nat.mod_lt _ (by decide)⟩
def blkTo (c : Dev nD) (n : ℕ) : Dev nD := member (outQ c (n / 4)) n
def blkFrom (c : Dev nD) (n : ℕ) : Dev nD := member (inQ c (n / 4)) n
def readTo (n : ℕ) : Dev nD := ⟨n % 16, Nat.mod_lt _ (by decide)⟩

/-- The devices whose turn is `n` or later. -/
def left (f : ℕ → Dev nD) (n : ℕ) : Finset (Dev nD) := ((Finset.range 16).filter (n ≤ ·)).image f

/-- Each turn below sixteen takes its device off what is left, where no device has two turns. -/
theorem left_next {f : ℕ → Dev nD} (hf : ∀ a b : Fin 16, f a.val = f b.val → a = b) (n : ℕ) (hn : n < 16) :
    left f n = insert (f n) (left f (n + 1)) ∧ f n ∉ left f (n + 1) := by
  unfold left
  constructor
  · ext d
    simp only [Finset.mem_image, Finset.mem_filter, Finset.mem_range, Finset.mem_insert]
    constructor
    · rintro ⟨a, ⟨h1, h2⟩, rfl⟩
      rcases Nat.eq_or_lt_of_le h2 with rfl | h
      · exact .inl rfl
      · exact .inr ⟨a, ⟨h1, h⟩, rfl⟩
    · rintro (rfl | ⟨a, ⟨h1, h2⟩, rfl⟩)
      · exact ⟨n, ⟨hn, le_refl n⟩, rfl⟩
      · exact ⟨a, ⟨h1, by omega⟩, rfl⟩
  · intro h
    obtain ⟨a, ha, he⟩ := Finset.mem_image.mp h
    simp only [Finset.mem_filter, Finset.mem_range] at ha
    have := hf ⟨a, ha.1⟩ ⟨n, hn⟩ he
    simp only [Fin.mk.injEq] at this
    omega

theorem left_end (f : ℕ → Dev nD) : left f 16 = ∅ := by
  unfold left
  rw [show (Finset.range 16).filter (16 ≤ ·) = ∅ from by decide, Finset.image_empty]

theorem sigTo_next (c : Dev nD) (n : ℕ) (hn : n < 16) : left (sigTo c) n = insert (sigTo c n) (left (sigTo c) (n + 1)) ∧ sigTo c n ∉ left (sigTo c) (n + 1) :=
  left_next (at_dev (p := fun c => ∀ a b : Fin 16, sigTo c a.val = sigTo c b.val → a = b) c (by decide +kernel)) n hn
theorem blkTo_next (c : Dev nD) (n : ℕ) (hn : n < 16) : left (blkTo c) n = insert (blkTo c n) (left (blkTo c) (n + 1)) ∧ blkTo c n ∉ left (blkTo c) (n + 1) :=
  left_next (at_dev (p := fun c => ∀ a b : Fin 16, blkTo c a.val = blkTo c b.val → a = b) c (by decide +kernel)) n hn
theorem blkFrom_next (c : Dev nD) (n : ℕ) (hn : n < 16) : left (blkFrom c) n = insert (blkFrom c n) (left (blkFrom c) (n + 1)) ∧ blkFrom c n ∉ left (blkFrom c) (n + 1) :=
  left_next (at_dev (p := fun c => ∀ a b : Fin 16, blkFrom c a.val = blkFrom c b.val → a = b) c (by decide +kernel)) n hn
theorem readTo_next (n : ℕ) (hn : n < 16) : left readTo n = insert (readTo n) (left readTo (n + 1)) ∧ readTo n ∉ left readTo (n + 1) :=
  left_next (by decide +kernel) n hn

theorem sigTo_start (c : Dev nD) : left (sigTo c) 1 = Finset.univ.erase c := by revert c; decide +kernel
theorem blkTo_start (c : Dev nD) : left (blkTo c) 0 = Finset.univ := by revert c; decide +kernel
theorem blkFrom_start (c : Dev nD) : left (blkFrom c) 0 = Finset.univ := by revert c; decide +kernel
theorem readTo_start : left readTo 0 = Finset.univ := by decide +kernel

/-- The row blocks of the result already written while device `c` computes: its own, once its turn is past. -/
def own (c : Dev nD) (n : ℕ) : Finset (Dev nD) := if c ∈ left (blkTo c) n then ∅ else {c}

theorem own_next (c : Dev nD) (n : ℕ) (hn : n < 16) : ∀ d ∈ own c (n + 1), d ∈ own c n ∨ (blkTo c n = c ∧ d = c) := by
  intro d hd
  unfold own at *
  rw [(blkTo_next c n hn).1]
  by_cases h : c ∈ left (blkTo c) (n + 1)
  · rw [if_pos h] at hd; exact absurd hd (Finset.notMem_empty d)
  · rw [if_neg h, Finset.mem_singleton] at hd
    by_cases e : blkTo c n = c
    · exact .inr ⟨e, hd⟩
    · refine .inl ?_
      rw [if_neg (fun h' => (Finset.mem_insert.mp h').elim (fun h'' => e h''.symm) h)]
      exact Finset.mem_singleton.mpr hd

theorem own_start (c : Dev nD) : own c 0 = ∅ := by
  unfold own; rw [blkTo_start, if_pos (Finset.mem_univ c)]
theorem own_end (c : Dev nD) : own c 16 = {c} := by
  unfold own; rw [left_end, if_neg (Finset.notMem_empty c)]

/-- The four copies slot by slot and the three quads copied whole write every row block. -/
theorem all_copied (c : Dev nD) : insert (blkFrom c 3) (insert (blkFrom c 2) (insert (blkFrom c 1) (insert (blkFrom c 0) {c})))
    ∪ quad (inQ c 1) ∪ quad (inQ c 2) ∪ quad (inQ c 3) = Finset.univ := by
  revert c; decide +kernel

variable (X : Dev nD → Vec F S128x2048 .f32) (Y : Dev nD → Vec F S2048x2048 .f32)

/-- The slice a turn stores or sends is the block of that turn. -/
theorem slice_blk (c : Dev nD) (n : ℕ) {v : FVec F S128x512 .f32} (hv : v = act (X c) (slab (Y c) (outQ c (n / 4)))) {off : Fin 2 → Nat}
    (ho : off = ![0, 128 * (n % 4)]) (h : S128x512.Slices off S128x128) :
    extractStridedSlice S128x128 off v h = blk X Y c (blkTo c n) := by
  subst hv
  rw [slice_cols _ ⟨n % 4, Nat.mod_lt _ (by decide)⟩ off ho h]
  have hq := (outQ c (n / 4)).isLt
  have hj : (blkTo c n).val = 4 * (outQ c (n / 4)).val + n % 4 := rfl
  unfold blk
  congr 1
  · congr 2
    exact Fin.ext (by show _ = (blkTo c n).val / 4; omega)
  · exact Fin.ext (by show n % 4 = (blkTo c n).val % 4; omega)

end Cert.Scatter

end
-- ==== Proof.Printed.lean ====
/-
# The printed conditions and offsets, turn by turn

The kernel prints the condition and the offsets of each turn as functions of the device of their own. Here they are
listed by turn, and each list is given its meaning once: turn `n` of a sweep is about the `n`-th device of its order.
-/
module

public import proofs.«01_k».proof.Proof.Order

@[expose] public section

noncomputable section

namespace Cert.Scatter

open Cert.KernelIdeal Cert.KernelIdeal.Gen
open Idealize.ShloMosaic Idealize.ShloMosaic.TcCoe

/-- The condition of the store of the device's own block, and where it stores. -/
def ownCond : Fin 16 → Dev nD → BitVec 1 := ![
    k0_cond1, k0_cond3, k0_cond5, k0_cond7, k0_cond9, k0_cond11, k0_cond13, k0_cond15,
    k0_cond17, k0_cond19, k0_cond21, k0_cond23, k0_cond25, k0_cond27, k0_cond29, k0_cond31]
def ownOff : Fin 16 → Dev nD → Fin 2 → Nat := ![
    k0_off2, k0_off8, k0_off14, k0_off20, k0_off26, k0_off32, k0_off38, k0_off44,
    k0_off50, k0_off56, k0_off62, k0_off68, k0_off74, k0_off80, k0_off86, k0_off92]

theorem ownCond_iff : ∀ (n : Fin 16) (c : Dev nD), ownCond n c = 1#1 ↔ blkTo c n.val = c := by decide +kernel
theorem ownOff_eq : ∀ (n : Fin 16) (c : Dev nD), ownOff n c = ![128 * c.val, 0] := by decide +kernel

/-- The condition of a transfer; its slot, its semaphores, the slot it lands in, and the device it goes to. -/
def sendCond : Fin 16 → Dev nD → BitVec 1 := ![
    k0_cond2, k0_cond4, k0_cond6, k0_cond8, k0_cond10, k0_cond12, k0_cond14, k0_cond16,
    k0_cond18, k0_cond20, k0_cond22, k0_cond24, k0_cond26, k0_cond28, k0_cond30, k0_cond32]
def sendOff : Fin 16 → Dev nD → Fin 3 → Nat := ![
    k0_off3, k0_off9, k0_off15, k0_off21, k0_off27, k0_off33, k0_off39, k0_off45,
    k0_off51, k0_off57, k0_off63, k0_off69, k0_off75, k0_off81, k0_off87, k0_off93]
def sendSem : Fin 16 → Dev nD → Fin 1 → Nat := ![
    k0_off4, k0_off10, k0_off16, k0_off22, k0_off28, k0_off34, k0_off40, k0_off46,
    k0_off52, k0_off58, k0_off64, k0_off70, k0_off76, k0_off82, k0_off88, k0_off94]
def landSem : Fin 16 → Dev nD → Fin 1 → Nat := ![
    k0_off5, k0_off11, k0_off17, k0_off23, k0_off29, k0_off35, k0_off41, k0_off47,
    k0_off53, k0_off59, k0_off65, k0_off71, k0_off77, k0_off83, k0_off89, k0_off95]
def landOff : Fin 16 → Dev nD → Fin 3 → Nat := ![
    k0_off6, k0_off12, k0_off18, k0_off24, k0_off30, k0_off36, k0_off42, k0_off48,
    k0_off54, k0_off60, k0_off66, k0_off72, k0_off78, k0_off84, k0_off90, k0_off96]
def fromOff : Fin 16 → Dev nD → Fin 3 → Nat := ![
    k0_off7, k0_off13, k0_off19, k0_off25, k0_off31, k0_off37, k0_off43, k0_off49,
    k0_off55, k0_off61, k0_off67, k0_off73, k0_off79, k0_off85, k0_off91, k0_off97]
def sendDev : Fin 16 → Dev nD → Nat := ![
    k0_dev16, k0_dev17, k0_dev18, k0_dev19, k0_dev20, k0_dev21, k0_dev22, k0_dev23,
    k0_dev24, k0_dev25, k0_dev26, k0_dev27, k0_dev28, k0_dev29, k0_dev30, k0_dev31]

theorem sendCond_iff : ∀ (n : Fin 16) (c : Dev nD), sendCond n c = 1#1 ↔ blkTo c n.val ≠ c := by decide +kernel
theorem send_eq : ∀ (n : Fin 16) (c : Dev nD), sendOff n c = ![(blkTo c n.val).val, 0, 0] ∧ sendSem n c = ![(blkTo c n.val).val]
    ∧ landSem n c = ![c.val] ∧ landOff n c = ![c.val, 0, 0] ∧ fromOff n c = ![(blkTo c n.val).val, 0, 0]
    ∧ sendDev n c = (blkTo c n.val).val := by decide +kernel

/-- The condition of the wait for a block; its semaphore and its slot. -/
def recvCond : Fin 16 → Dev nD → BitVec 1 := ![
    k0_cond33, k0_cond34, k0_cond35, k0_cond36, k0_cond41, k0_cond42, k0_cond43, k0_cond44,
    k0_cond45, k0_cond46, k0_cond47, k0_cond48, k0_cond49, k0_cond50, k0_cond51, k0_cond52]
def recvSem : Fin 16 → Dev nD → Fin 1 → Nat := ![
    k0_off98, k0_off100, k0_off102, k0_off104, k0_off114, k0_off116, k0_off118, k0_off120,
    k0_off124, k0_off126, k0_off128, k0_off130, k0_off132, k0_off134, k0_off136, k0_off138]
def recvOff : Fin 16 → Dev nD → Fin 3 → Nat := ![
    k0_off99, k0_off101, k0_off103, k0_off105, k0_off115, k0_off117, k0_off119, k0_off121,
    k0_off125, k0_off127, k0_off129, k0_off131, k0_off133, k0_off135, k0_off137, k0_off139]

theorem recvCond_iff : ∀ (n : Fin 16) (c : Dev nD), recvCond n c = 1#1 ↔ blkFrom c n.val ≠ c := by decide +kernel
theorem recvSem_eq : ∀ (n : Fin 16) (c : Dev nD), recvSem n c = ![(blkFrom c n.val).val] := by decide +kernel
theorem recvOff_eq : ∀ (n : Fin 16) (c : Dev nD), recvOff n c = ![(blkFrom c n.val).val, 0, 0] := by decide +kernel

/-- The condition of the copy of one slot; where it goes in the result and the slot. -/
def copyCond : Fin 4 → Dev nD → BitVec 1 := ![k0_cond37, k0_cond38, k0_cond39, k0_cond40]
def copyTo : Fin 4 → Dev nD → Fin 2 → Nat := ![k0_off107, k0_off109, k0_off111, k0_off113]
def copyOff : Fin 4 → Dev nD → Fin 3 → Nat := ![k0_off106, k0_off108, k0_off110, k0_off112]

theorem copyCond_iff : ∀ (n : Fin 4) (c : Dev nD), copyCond n c = 1#1 ↔ blkFrom c n.val ≠ c := by decide +kernel
theorem copy_eq : ∀ (n : Fin 4) (c : Dev nD), copyTo n c = ![128 * (blkFrom c n.val).val, 0] ∧ copyOff n c = ![(blkFrom c n.val).val, 0, 0] := by
  decide +kernel

/-- The copy of a whole quad: where it goes and where from, and that the device is not in it. -/
theorem quad_eq : ∀ (g : Fin 4) (c : Dev nD), k0_off123 c (BitVec.ofNat 32 g.val) = ![512 * (inQ c g.val).val, 0]
    ∧ k0_off122 c (BitVec.ofNat 32 g.val) = ![4 * (inQ c g.val).val, 0, 0] := by decide +kernel
theorem quad_other : ∀ (c : Dev nD), (∀ d ∈ quad (inQ c 1), d ≠ c ∧ d ∉ left (blkFrom c) 8) ∧ (∀ d ∈ quad (inQ c 2), d ≠ c ∧ d ∉ left (blkFrom c) 12)
    ∧ ∀ d ∈ quad (inQ c 3), d ≠ c ∧ d ∉ left (blkFrom c) 16 := by decide +kernel
theorem copy_past : ∀ (c : Dev nD), blkFrom c 0 ∉ left (blkFrom c) 4 ∧ blkFrom c 1 ∉ left (blkFrom c) 4 ∧ blkFrom c 2 ∉ left (blkFrom c) 4
    ∧ blkFrom c 3 ∉ left (blkFrom c) 4 := by decide +kernel

/-- The weights' columns a product reads. -/
theorem loadOff_eq : ∀ (g : Fin 4) (c : Dev nD), k0_off1 c (BitVec.ofNat 32 g.val) = ![0, 512 * (outQ c g.val).val] := by decide +kernel

/-- The condition of a final wait, as printed from the device's own number. -/
def readCond (c : Dev nD) (j : BitVec 32) : BitVec 1 :=
  Scalar.cmpi .ne (Scalar.extui (Scalar.cmpi .ne (Scalar.remsi (Scalar.divsi (Dev.word c) 1#32) 16#32) j)) 0#32
theorem readCond_iff : ∀ (n : Fin 16) (c : Dev nD), readCond c (BitVec.ofNat 32 n.val) = 1#1 ↔ readTo n.val ≠ c := by decide +kernel

/-- The devices signalled. -/
def sigDev : Fin 16 → Dev nD → Nat := ![fun c => c.val,
    k0_dev1, k0_dev2, k0_dev3, k0_dev4, k0_dev5, k0_dev6, k0_dev7, k0_dev8, k0_dev9, k0_dev10, k0_dev11, k0_dev12, k0_dev13, k0_dev14, k0_dev15]
theorem sigDev_eq : ∀ (n : Fin 16) (c : Dev nD), sigDev n c = (sigTo c n.val).val := by decide +kernel
theorem sigTo_other : ∀ (n : Fin 16) (c : Dev nD), n ≠ 0 → sigTo c n.val ≠ c := by decide +kernel

end Cert.Scatter

end
-- ==== Proof.Turns.lean ====
/-
# The kernel's parts that compute and send

The printed body in its parts: for each of the parts up to the last block sent, what the device holds before and after.
-/
module

public import proofs.«01_k».proof.Proof.Printed

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → Vec F S128x2048 .f32) (Y : Dev nD → Vec F S2048x2048 .f32) (K : Dev nD × Kind → ℕ)

attribute [local irreducible]
  k0_cond1 k0_cond2 k0_cond3 k0_cond4 k0_cond5 k0_cond6 k0_cond7 k0_cond8 k0_cond9 k0_cond10 k0_cond11 k0_cond12
  k0_cond13 k0_cond14 k0_cond15 k0_cond16 k0_cond17 k0_cond18 k0_cond19 k0_cond20 k0_cond21 k0_cond22 k0_cond23
  k0_cond24 k0_cond25 k0_cond26 k0_cond27 k0_cond28 k0_cond29 k0_cond30 k0_cond31 k0_cond32 k0_cond33 k0_cond34
  k0_cond35 k0_cond36 k0_cond37 k0_cond38 k0_cond39 k0_cond40 k0_cond41 k0_cond42 k0_cond43 k0_cond44 k0_cond45
  k0_cond46 k0_cond47 k0_cond48 k0_cond49 k0_cond50 k0_cond51 k0_cond52 k0_off1 k0_off2 k0_off3 k0_off4 k0_off5
  k0_off6 k0_off7 k0_off8 k0_off9 k0_off10 k0_off11 k0_off12 k0_off13 k0_off14 k0_off15 k0_off16 k0_off17
  k0_off18 k0_off19 k0_off20 k0_off21 k0_off22 k0_off23 k0_off24 k0_off25 k0_off26 k0_off27 k0_off28 k0_off29
  k0_off30 k0_off31 k0_off32 k0_off33 k0_off34 k0_off35 k0_off36 k0_off37 k0_off38 k0_off39 k0_off40 k0_off41
  k0_off42 k0_off43 k0_off44 k0_off45 k0_off46 k0_off47 k0_off48 k0_off49 k0_off50 k0_off51 k0_off52 k0_off53
  k0_off54 k0_off55 k0_off56 k0_off57 k0_off58 k0_off59 k0_off60 k0_off61 k0_off62 k0_off63 k0_off64 k0_off65
  k0_off66 k0_off67 k0_off68 k0_off69 k0_off70 k0_off71 k0_off72 k0_off73 k0_off74 k0_off75 k0_off76 k0_off77
  k0_off78 k0_off79 k0_off80 k0_off81 k0_off82 k0_off83 k0_off84 k0_off85 k0_off86 k0_off87 k0_off88 k0_off89
  k0_off90 k0_off91 k0_off92 k0_off93 k0_off94 k0_off95 k0_off96 k0_off97 k0_off98 k0_off99 k0_off100 k0_off101
  k0_off102 k0_off103 k0_off104 k0_off105 k0_off106 k0_off107 k0_off108 k0_off109 k0_off110 k0_off111 k0_off112
  k0_off113 k0_off114 k0_off115 k0_off116 k0_off117 k0_off118 k0_off119 k0_off120 k0_off121 k0_off122 k0_off123
  k0_off124 k0_off125 k0_off126 k0_off127 k0_off128 k0_off129 k0_off130 k0_off131 k0_off132 k0_off133 k0_off134
  k0_off135 k0_off136 k0_off137 k0_off138 k0_off139 k0_dev1 k0_dev2 k0_dev3 k0_dev4 k0_dev5 k0_dev6 k0_dev7
  k0_dev8 k0_dev9 k0_dev10 k0_dev11 k0_dev12 k0_dev13 k0_dev14 k0_dev15 k0_dev16 k0_dev17 k0_dev18 k0_dev19
  k0_dev20 k0_dev21 k0_dev22 k0_dev23 k0_dev24 k0_dev25 k0_dev26 k0_dev27 k0_dev28 k0_dev29 k0_dev30 k0_dev31

/-- The device's operands, where the kernel reads them. -/
def operands (c : Dev nD) : sProp 𝕄 :=
  iprop((((c : Thread nD τ).loc cc0_stg0_0) ↦[Finset.univ]{fullShare} (X c)) ∗ (((c : Thread nD τ).loc cc0_stg1_0) ↦[Finset.univ]{fullShare} (Y c)))

/-- A part of the body run at device `c`. -/
abbrev runs (c : Dev nD) {α : Type} (p : Prog (TpuEff nD τ sig (Elt F) Λ₀ .tc) α) (Q : α → sProp 𝕄) : sProp 𝕄 :=
  wp frame (wpE (defs₀ (F := F)) 𝒱₀ c none) Set.univ p Q

/-- The `n`-th turn's store of the device's own block, as printed. -/
theorem turn_own {α : Type} {Q : α → sProp 𝕄} (c : Dev nD) (n : ℕ) (hn : n < 16) {b : BitVec 1} (hb : b = ownCond ⟨n, hn⟩ c) {o : Fin 2 → Nat}
    (ho : o = ownOff ⟨n, hn⟩ c) {w : Vec F S128x128 .f32} (hw : w = blk X Y c (blkTo c n))
    {i2 : b = 1#1 → ∀ a, o a + S128x128.size a ≤ S2048x128.size a}
    {u : ∀ h, oM.view.LoadsAt (Rect.unit (s := S2048x128) o S128x128.size (i2 h)).toLoadRect}
    {u' : ∀ h, (oM.access (Rect.unit (s := S2048x128) o S128x128.size (i2 h))).Stores Finset.univ}
    {k : Prog (TpuEff nD τ sig (Elt F) Λ₀ .tc) α} :
    outOn X Y c (own c n)
      ⊢ iprop((outOn X Y c (own c (n + 1)) -∗ runs c k Q)
        -∗ runs c
          (if h : b = 1#1 then
            Prog.lift (.load oM (Rect.unit (s := S2048x128) o S128x128.size (i2 h)).toLoadRect (u h)) >>= fun _ =>
            Prog.lift (.store oM (Rect.unit (s := S2048x128) o S128x128.size (i2 h)) w Finset.univ (u' h) (.inl rfl)) >>= fun _ => k
          else k) Q) :=
  step_own X Y c (blkTo c n) (own_next c n hn) (by rw [hb]; exact ownCond_iff ⟨n, hn⟩ c) (ho.trans (ownOff_eq ⟨n, hn⟩ c)) hw

/-- The offsets of the `n`-th turn's transfer, as printed. -/
def SendsAt (c : Dev nD) (n : Fin 16) (b : BitVec 1) (o3 : Fin 3 → Nat) (o4 o5 : Fin 1 → Nat) (o6 o7 : Fin 3 → Nat) (d : ℕ) : Prop :=
  b = sendCond n c ∧ o3 = sendOff n c ∧ o4 = sendSem n c ∧ o5 = landSem n c ∧ o6 = landOff n c ∧ o7 = fromOff n c ∧ d = sendDev n c

/-- The `n`-th turn's transfer, as printed. -/
theorem turn_send {α : Type} {Q : α → sProp 𝕄} (c : Dev nD) (n : ℕ) (hn : n < 16)
    {b : BitVec 1} {o3 : Fin 3 → Nat} {o4 o5 : Fin 1 → Nat} {o6 o7 : Fin 3 → Nat} {d : ℕ} (hs : SendsAt c ⟨n, hn⟩ b o3 o4 o5 o6 o7 d)
    {w : Vec F S1x128x128 .bf16} {w' : Vec F S128x128 .f32} (hw : w = k0_pay11 w') (hw' : w' = blk X Y c (blkTo c n))
    {i3 : b = 1#1 → SlotIn o3} {i4 : b = 1#1 → SemIn o4} {i5 : b = 1#1 → SemIn o5} {i6 : b = 1#1 → SlotIn o6} {i7 : b = 1#1 → SlotIn o7}
    {hd : b = 1#1 → d < nD}
    {u : ∀ h, yM.view.LoadsAt (Rect.unit (s := S16x128x128) o3 S1x128x128.size (i3 h)).toLoadRect}
    {u' : ∀ h, (yM.access (Rect.unit (s := S16x128x128) o3 S1x128x128.size (i3 h))).Stores Finset.univ}
    {v : ∀ h, (yAt o7 (i7 h)).view.WordExact} {v' : ∀ h, (rAt o6 (i6 h)).view.WordExact}
    {k : Prog (TpuEff nD τ sig (Elt F) Λ₀ .tc) α} :
    iprop(recs X Y K ∗ sends c (left (blkTo c) n))
      ⊢ iprop((sends c (left (blkTo c) (n + 1)) -∗ runs c k Q)
        -∗ runs c
          (if h : b = 1#1 then
            Prog.lift (.load yM (Rect.unit (s := S16x128x128) o3 S1x128x128.size (i3 h)).toLoadRect (u h)) >>= fun _ =>
            Prog.lift (.store yM (Rect.unit (s := S16x128x128) o3 S1x128x128.size (i3 h)) w Finset.univ (u' h) (.inl rfl)) >>= fun _ =>
            Prog.lift (.enqueueDma (yAt o7 (i7 h)) (.remote (Dev.tc (⟨d, hd h⟩ : Dev nD)) (rAt o6 (i6 h)) (.dma (sendAt o4 (i4 h))))
              (.dma (recvAt o5 (i5 h))) (v h) (v' h) ⟨⟨rfl, Or.inl rfl⟩, trivial⟩) >>= fun _ => k
          else k) Q) := by
  have hb : b = 1#1 ↔ blkTo c n ≠ c := by rw [hs.1]; exact sendCond_iff ⟨n, hn⟩ c
  obtain ⟨-, e3, e4, e5, e6, e7, ed⟩ := hs
  obtain ⟨f3, f4, f5, f6, f7, fd⟩ := send_eq ⟨n, hn⟩ c
  exact step_send X Y K c (blkTo c n) (blkTo_next c n hn) hb ⟨e3.trans f3, e4.trans f4, e5.trans f5, e6.trans f6, e7.trans f7, ed.trans fd⟩
    (hw.trans (congrArg k0_pay11 hw'))

/-- What device `c` holds of its transfers before the barrier lets it send. -/
def ready (c : Dev nD) : sProp 𝕄 :=
  bigSep (Finset.univ.erase c) fun j => iprop(dutyTok ER (sendCell c j) 0 c ∗ dutyTok ER (recvCell j c) 0 c ∗ ∃ f, yOn (F := F) c (slot j) f)

theorem sends_start (c : Dev nD) :
    iprop(owesE c (owe c ∅ (Finset.univ.erase c)) ∗ ready c ∗ bigSep (Finset.univ.erase c) (barPay (F := F) c)) ⊢ (sends c (left (blkTo c) 0) : sProp 𝕄) := by
  unfold ready sends
  rw [blkTo_start, Finset.sdiff_eq_empty_iff_subset.mpr (Finset.subset_univ _), bigSep_empty, ← bigSep_sep']
  iintro ⟨HO, H⟩
  isplitl [HO]; · iexact HO
  isplitl [H]
  · iapply (show _ ⊢ _ from bigSep_mono fun j _ => (by
      unfold barPay
      iintro ⟨⟨Ha, Hb, Hc⟩, Hd⟩
      isplitl [Ha]; · iexact Ha
      isplitl [Hb]; · iexact Hb
      isplitl [Hc]; · iexact Hc
      iexact Hd : _ ⊢ iprop(dutyTok ER (sendCell c j) 0 c ∗ dutyTok ER (recvCell j c) 0 c ∗ (∃ f, yOn (F := F) c (slot j) f) ∗ ∃ f, rOn (F := F) j (slot c) f))) $$ H
  iempintro

/-- The loads of both operands: the device's row block, and the weights' columns of its `g`-th product. -/
theorem step_operands {α : Type} {Q : α → sProp 𝕄} (c : Dev nD) (g : ℕ) {off : Fin 2 → Nat} (ho : off = ![0, 512 * (outQ c g).val])
    {u : xM.view.LoadsAt (Rect.unit (s := S128x2048) ![0, 0] S128x2048.size inb_S128x2048_S128x2048_0_0).toLoadRect}
    {i : ∀ a, off a + S2048x512.size a ≤ S2048x2048.size a} {u' : wM.view.LoadsAt (Rect.unit (s := S2048x2048) off S2048x512.size i).toLoadRect}
    {k : Vec F S128x2048 .f32 → Vec F S2048x512 .f32 → Prog (TpuEff nD τ sig (Elt F) Λ₀ .tc) α} :
    operands X Y c
      ⊢ iprop((operands X Y c -∗ runs c (k (X c) (slab (Y c) (outQ c g))) Q)
        -∗ runs c (Prog.lift (.load xM (Rect.unit (s := S128x2048) ![0, 0] S128x2048.size inb_S128x2048_S128x2048_0_0).toLoadRect u) >>= fun a : Vec F S128x2048 .f32 =>
          Prog.lift (.load wM (Rect.unit (s := S2048x2048) off S2048x512.size i).toLoadRect u') >>= fun b : Vec F S2048x512 .f32 => k a b) Q) := by
  unfold operands
  simp only [Prog.bind_lift]
  iintro ⟨Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [load_x, load_w (Y c) (outQ c g) off i ho]
  iapply Hk
  isplitl [Hx]; · iexact Hx
  iexact Hw

theorem runs_pure {α : Type} {Q : α → sProp 𝕄} (c : Dev nD) {a : α} : Q a ⊢ runs c (pure a) Q := by
  unfold runs
  rw [wp_pure]
  iintro H
  imodintro
  iexact H

/-- One signal. -/
theorem turn_signal {α : Type} {Q : α → sProp 𝕄} (c : Dev nD) (n : ℕ) (hn : n < 16) (h0 : n ≠ 0) {d : ℕ} (hd : d = sigDev ⟨n, hn⟩ c) {h : d < nD}
    {k : PUnit → Prog (TpuEff nD τ sig (Elt F) Λ₀ .tc) α} :
    iprop(recs X Y K ∗ owesE c (owe c (left (sigTo c) n) (Finset.univ.erase c)) ∗ signals c (left (sigTo c) n))
      ⊢ iprop(((owesE c (owe c (left (sigTo c) (n + 1)) (Finset.univ.erase c)) ∗ signals c (left (sigTo c) (n + 1))) -∗ runs c (k ⟨⟩) Q)
        -∗ runs c (semSignalWord (⟨d, h⟩ : Dev nD) barrierS.sem 1#32 >>= k) Q) :=
  step_signal X Y K c (sigTo c n) ⟨d, h⟩ (Fin.ext (hd.trans (sigDev_eq ⟨n, hn⟩ c))) (sigTo_other ⟨n, hn⟩ c (fun e => h0 (congrArg Fin.val e)))
    (sigTo_next c n hn).1 (sigTo_next c n hn).2

/-! ## The parts -/

theorem part1 (c : Dev nD) {Q : _ → sProp 𝕄} :
    iprop(recs X Y K ∗ owesE c (owe c (left (sigTo c) 1) (Finset.univ.erase c)) ∗ signals c (left (sigTo c) 1))
      ⊢ iprop(((owesE c (owe c (left (sigTo c) 6) (Finset.univ.erase c)) ∗ signals c (left (sigTo c) 6))
          -∗ Q ⟨c, (Scalar.remsi (Scalar.divsi (Dev.word c) 1#32) 16#32), Scalar.divsi (Scalar.remsi (Scalar.divsi (Dev.word c) 1#32) 16#32) 4#32, barrierS, 6#32⟩)
        -∗ runs c (k0_part1_skel xM (Memref.isWhole_whole _) wM (Memref.isWhole_whole _) oM (Memref.isWhole_whole _) yM (Memref.isWhole_whole _)
          rM (Memref.isWhole_whole _) cc0_scratch2 cc0_scratch3) Q) := by
  unfold k0_part1_skel
  rw [Prog.bind_lift]
  unfold runs
  rw [wp_deviceId]
  extract_lets
  iintro ⟨#Hr, HO, Hs⟩ Hk
  iapply (turn_signal X Y K c 1 (by decide) (by decide) (d := k0_dev1 c) rfl) $$ [HO Hs]
  · isplitr; · iexact Hr
    isplitl [HO] <;> iassumption
  iintro ⟨HO, Hs⟩
  iapply (turn_signal X Y K c 2 (by decide) (by decide) (d := k0_dev2 c) rfl) $$ [HO Hs]
  · isplitr; · iexact Hr
    isplitl [HO] <;> iassumption
  iintro ⟨HO, Hs⟩
  iapply (turn_signal X Y K c 3 (by decide) (by decide) (d := k0_dev3 c) rfl) $$ [HO Hs]
  · isplitr; · iexact Hr
    isplitl [HO] <;> iassumption
  iintro ⟨HO, Hs⟩
  iapply (turn_signal X Y K c 4 (by decide) (by decide) (d := k0_dev4 c) rfl) $$ [HO Hs]
  · isplitr; · iexact Hr
    isplitl [HO] <;> iassumption
  iintro ⟨HO, Hs⟩
  iapply (turn_signal X Y K c 5 (by decide) (by decide) (d := k0_dev5 c) rfl) $$ [HO Hs]
  · isplitr; · iexact Hr
    isplitl [HO] <;> iassumption
  iintro ⟨HO, Hs⟩
  iapply (runs_pure c)
  iapply Hk
  isplitl [HO]; · iexact HO
  iexact Hs

theorem part2 (c : Dev nD) (v2 v : BitVec 32) {Q : _ → sProp 𝕄} :
    iprop(recs X Y K ∗ owesE c (owe c (left (sigTo c) 6) (Finset.univ.erase c)) ∗ signals c (left (sigTo c) 6))
      ⊢ iprop(((owesE c (owe c (left (sigTo c) 12) (Finset.univ.erase c)) ∗ signals c (left (sigTo c) 12)) -∗ Q 12#32)
        -∗ runs c (k0_part2_skel xM (Memref.isWhole_whole _) wM (Memref.isWhole_whole _) oM (Memref.isWhole_whole _) yM (Memref.isWhole_whole _)
          rM (Memref.isWhole_whole _) cc0_scratch2 cc0_scratch3 c v2 barrierS v) Q) := by
  unfold k0_part2_skel
  iintro ⟨#Hr, HO, Hs⟩ Hk
  iapply (turn_signal X Y K c 6 (by decide) (by decide) (d := k0_dev6 c) rfl) $$ [HO Hs]
  · isplitr; · iexact Hr
    isplitl [HO] <;> iassumption
  iintro ⟨HO, Hs⟩
  iapply (turn_signal X Y K c 7 (by decide) (by decide) (d := k0_dev7 c) rfl) $$ [HO Hs]
  · isplitr; · iexact Hr
    isplitl [HO] <;> iassumption
  iintro ⟨HO, Hs⟩
  iapply (turn_signal X Y K c 8 (by decide) (by decide) (d := k0_dev8 c) rfl) $$ [HO Hs]
  · isplitr; · iexact Hr
    isplitl [HO] <;> iassumption
  iintro ⟨HO, Hs⟩
  iapply (turn_signal X Y K c 9 (by decide) (by decide) (d := k0_dev9 c) rfl) $$ [HO Hs]
  · isplitr; · iexact Hr
    isplitl [HO] <;> iassumption
  iintro ⟨HO, Hs⟩
  iapply (turn_signal X Y K c 10 (by decide) (by decide) (d := k0_dev10 c) rfl) $$ [HO Hs]
  · isplitr; · iexact Hr
    isplitl [HO] <;> iassumption
  iintro ⟨HO, Hs⟩
  iapply (turn_signal X Y K c 11 (by decide) (by decide) (d := k0_dev11 c) rfl) $$ [HO Hs]
  · isplitr; · iexact Hr
    isplitl [HO] <;> iassumption
  iintro ⟨HO, Hs⟩
  iapply (runs_pure c)
  iapply Hk
  isplitl [HO]; · iexact HO
  iexact Hs

theorem part3 (c : Dev nD) (v2 v3 v : BitVec 32) {Q : _ → sProp 𝕄} :
    iprop(recs X Y K ∗ (owesE c (owe c (left (sigTo c) 12) (Finset.univ.erase c)) ∗ signals c (left (sigTo c) 12)) ∗ operands X Y c)
      ⊢ iprop(((owesE c (owe c ∅ (Finset.univ.erase c)) ∗ operands X Y c)
          -∗ Q ⟨Scalar.muli (Scalar.remsi (Scalar.addi v3 0#32) 4#32) 4#32, k0_pay1 (X c) (slab (Y c) (outQ c 0)), k0_pay2 (X c) (slab (Y c) (outQ c 0))⟩)
        -∗ runs c (k0_part3_skel xM (Memref.isWhole_whole _) wM (Memref.isWhole_whole _) oM (Memref.isWhole_whole _) yM (Memref.isWhole_whole _)
          rM (Memref.isWhole_whole _) cc0_scratch2 cc0_scratch3 c v2 v3 barrierS v) Q) := by
  unfold k0_part3_skel
  extract_lets
  iintro ⟨#Hr, ⟨HO, Hs⟩, Hx⟩ Hk
  iapply (turn_signal X Y K c 12 (by decide) (by decide) (d := k0_dev12 c) rfl) $$ [HO Hs]
  · isplitr; · iexact Hr
    isplitl [HO] <;> iassumption
  iintro ⟨HO, Hs⟩
  iapply (turn_signal X Y K c 13 (by decide) (by decide) (d := k0_dev13 c) rfl) $$ [HO Hs]
  · isplitr; · iexact Hr
    isplitl [HO] <;> iassumption
  iintro ⟨HO, Hs⟩
  iapply (turn_signal X Y K c 14 (by decide) (by decide) (d := k0_dev14 c) rfl) $$ [HO Hs]
  · isplitr; · iexact Hr
    isplitl [HO] <;> iassumption
  iintro ⟨HO, Hs⟩
  iapply (turn_signal X Y K c 15 (by decide) (by decide) (d := k0_dev15 c) rfl) $$ [HO Hs]
  · isplitr; · iexact Hr
    isplitl [HO] <;> iassumption
  iintro ⟨HO, Hs⟩
  iapply (step_operands X Y c 0 (off := k0_off1 c 0#32) (loadOff_eq 0 c)) $$ Hx; iintro Hx
  iapply (runs_pure c)
  iapply Hk
  rw [← left_end (sigTo c)]
  isplitl [HO]; · iexact HO
  iexact Hx

theorem part4 (c : Dev nD) (v2 v67 : BitVec 32) (v74 v76 : FVec F S128x512 .f32) (hv : k0_pay3 v74 v76 = act (X c) (slab (Y c) (outQ c 0)))
    {Q : _ → sProp 𝕄} :
    iprop(recs X Y K ∗ (owesE c (owe c ∅ (Finset.univ.erase c)) ∗ cred (tallyAt (barCell c) () 15) ∗ atPos ER (barCell c) 0 ∅ 0) ∗ ready c ∗ outOn X Y c (own c 0))
      ⊢ iprop(((semVal (barCell c) 0 ∗ sends c (left (blkTo c) 3) ∗ outOn X Y c (own c 3)) -∗ Q ⟨Scalar.addi v67 3#32, k0_pay10 v74 v76, Scalar.cmpi .eq (Scalar.addi v67 3#32) v2⟩)
        -∗ runs c (k0_part4_skel xM (Memref.isWhole_whole _) wM (Memref.isWhole_whole _) oM (Memref.isWhole_whole _) yM (Memref.isWhole_whole _)
          rM (Memref.isWhole_whole _) cc0_scratch2 cc0_scratch3 c v2 barrierS v67 v74 v76) Q) := by
  unfold k0_part4_skel
  extract_lets
  iintro ⟨#Hr, Hw, Hy, Ho⟩ Hk
  iapply (step_barrier X Y K c (Finset.univ.erase c)) $$ [Hw]
  · isplitr; · iexact Hr
    iexact Hw
  iintro ⟨HO, Hz, Hp⟩
  ihave Hs := (sends_start c) $$ [HO Hy Hp]
  · isplitl [HO]; · iexact HO
    isplitl [Hy]; · iexact Hy
    iexact Hp
  have h0 := slice_blk X Y c 0 hv rfl slices_S128x512_o0_0_S128x128
  have h1 := slice_blk X Y c 1 hv rfl slices_S128x512_o0_128_S128x128
  have h2 := slice_blk X Y c 2 hv rfl slices_S128x512_o0_256_S128x128
  iapply (turn_own X Y c 0 (by decide) (b := k0_cond1 c) (o := k0_off2 c) rfl rfl h0) $$ Ho; iintro Ho
  iapply (turn_send X Y K c 0 (by decide) (b := k0_cond2 c) (o3 := k0_off3 c) (o4 := k0_off4 c) (o5 := k0_off5 c) (o6 := k0_off6 c) (o7 := k0_off7 c)
    (d := k0_dev16 c) ⟨rfl, rfl, rfl, rfl, rfl, rfl, rfl⟩ rfl h0) $$ [Hs]
  · isplitr <;> iassumption
  iintro Hs
  iapply (turn_own X Y c 1 (by decide) (b := k0_cond3 c) (o := k0_off8 c) rfl rfl h1) $$ Ho; iintro Ho
  iapply (turn_send X Y K c 1 (by decide) (b := k0_cond4 c) (o3 := k0_off9 c) (o4 := k0_off10 c) (o5 := k0_off11 c) (o6 := k0_off12 c) (o7 := k0_off13 c)
    (d := k0_dev17 c) ⟨rfl, rfl, rfl, rfl, rfl, rfl, rfl⟩ rfl h1) $$ [Hs]
  · isplitr <;> iassumption
  iintro Hs
  iapply (turn_own X Y c 2 (by decide) (b := k0_cond5 c) (o := k0_off14 c) rfl rfl h2) $$ Ho; iintro Ho
  iapply (turn_send X Y K c 2 (by decide) (b := k0_cond6 c) (o3 := k0_off15 c) (o4 := k0_off16 c) (o5 := k0_off17 c) (o6 := k0_off18 c) (o7 := k0_off19 c)
    (d := k0_dev18 c) ⟨rfl, rfl, rfl, rfl, rfl, rfl, rfl⟩ rfl h2) $$ [Hs]
  · isplitr <;> iassumption
  iintro Hs
  iapply (runs_pure c)
  iapply Hk
  isplitl [Hz]; · iexact Hz
  isplitl [Hs]; · iexact Hs
  iexact Ho

theorem part5 (c : Dev nD) (v2 v3 v112 : BitVec 32) (v113 : FVec F S128x128 .f32) (v114 : BitVec 1) (h3 : v113 = blk X Y c (blkTo c 3))
    {Q : _ → sProp 𝕄} :
    iprop(recs X Y K ∗ operands X Y c ∗ sends c (left (blkTo c) 3) ∗ outOn X Y c (own c 3))
      ⊢ iprop(((operands X Y c ∗ sends c (left (blkTo c) 5) ∗ outOn X Y c (own c 5)) -∗ Q ⟨Scalar.muli (Scalar.remsi (Scalar.addi v3 1#32) 4#32) 4#32, k0_pay12 (X c) (slab (Y c) (outQ c 1)),
          Scalar.addi (Scalar.muli (Scalar.remsi (Scalar.addi v3 1#32) 4#32) 4#32) 1#32, k0_pay15 (X c) (slab (Y c) (outQ c 1))⟩)
        -∗ runs c (k0_part5_skel xM (Memref.isWhole_whole _) wM (Memref.isWhole_whole _) oM (Memref.isWhole_whole _) yM (Memref.isWhole_whole _)
          rM (Memref.isWhole_whole _) cc0_scratch2 cc0_scratch3 c v2 v3 v112 v113 v114) Q) := by
  unfold k0_part5_skel
  extract_lets
  iintro ⟨#Hr, Hx, Hs, Ho⟩ Hk
  iapply (turn_own X Y c 3 (by decide) (b := k0_cond7 c) (o := k0_off20 c) rfl rfl h3) $$ Ho; iintro Ho
  iapply (turn_send X Y K c 3 (by decide) (b := k0_cond8 c) (o3 := k0_off21 c) (o4 := k0_off22 c) (o5 := k0_off23 c) (o6 := k0_off24 c) (o7 := k0_off25 c)
    (d := k0_dev19 c) ⟨rfl, rfl, rfl, rfl, rfl, rfl, rfl⟩ rfl h3) $$ [Hs]
  · isplitr <;> iassumption
  iintro Hs
  iapply (step_operands X Y c 1 (off := k0_off1 c 1#32) (loadOff_eq 1 c)) $$ Hx; iintro Hx
  have h4 := slice_blk X Y c 4 (v := act (X c) (slab (Y c) (outQ c 1))) rfl rfl slices_S128x512_o0_0_S128x128
  iapply (turn_own X Y c 4 (by decide) (b := k0_cond9 c) (o := k0_off26 c) rfl rfl h4) $$ Ho; iintro Ho
  iapply (turn_send X Y K c 4 (by decide) (b := k0_cond10 c) (o3 := k0_off27 c) (o4 := k0_off28 c) (o5 := k0_off29 c) (o6 := k0_off30 c) (o7 := k0_off31 c)
    (d := k0_dev20 c) ⟨rfl, rfl, rfl, rfl, rfl, rfl, rfl⟩ rfl h4) $$ [Hs]
  · isplitr <;> iassumption
  iintro Hs
  iapply (runs_pure c)
  iapply Hk
  isplitl [Hx]; · iexact Hx
  isplitl [Hs]; · iexact Hs
  iexact Ho

theorem part6 (c : Dev nD) (v2 v3 v122 : BitVec 32) (v142 : FVec F S128x512 .f32) (v151 : BitVec 32) (v152 : FVec F S128x128 .f32)
    (hv : v142 = act (X c) (slab (Y c) (outQ c 1))) (h5 : v152 = blk X Y c (blkTo c 5))
    {Q : _ → sProp 𝕄} :
    iprop(recs X Y K ∗ operands X Y c ∗ sends c (left (blkTo c) 5) ∗ outOn X Y c (own c 5))
      ⊢ iprop(((operands X Y c ∗ sends c (left (blkTo c) 8) ∗ outOn X Y c (own c 8)) -∗ Q ⟨Scalar.muli (Scalar.remsi (Scalar.addi v3 2#32) 4#32) 4#32, k0_pay21 (X c) (slab (Y c) (outQ c 2)), k0_pay22 (X c) (slab (Y c) (outQ c 2)),
          k0_pay23 (X c) (slab (Y c) (outQ c 2))⟩)
        -∗ runs c (k0_part6_skel xM (Memref.isWhole_whole _) wM (Memref.isWhole_whole _) oM (Memref.isWhole_whole _) yM (Memref.isWhole_whole _)
          rM (Memref.isWhole_whole _) cc0_scratch2 cc0_scratch3 c v2 v3 v122 v142 v151 v152) Q) := by
  unfold k0_part6_skel
  extract_lets
  iintro ⟨#Hr, Hx, Hs, Ho⟩ Hk
  have h6 := slice_blk X Y c 6 hv rfl slices_S128x512_o0_256_S128x128
  have h7 := slice_blk X Y c 7 hv rfl slices_S128x512_o0_384_S128x128
  iapply (turn_own X Y c 5 (by decide) (b := k0_cond11 c) (o := k0_off32 c) rfl rfl h5) $$ Ho; iintro Ho
  iapply (turn_send X Y K c 5 (by decide) (b := k0_cond12 c) (o3 := k0_off33 c) (o4 := k0_off34 c) (o5 := k0_off35 c) (o6 := k0_off36 c) (o7 := k0_off37 c)
    (d := k0_dev21 c) ⟨rfl, rfl, rfl, rfl, rfl, rfl, rfl⟩ rfl h5) $$ [Hs]
  · isplitr <;> iassumption
  iintro Hs
  iapply (turn_own X Y c 6 (by decide) (b := k0_cond13 c) (o := k0_off38 c) rfl rfl h6) $$ Ho; iintro Ho
  iapply (turn_send X Y K c 6 (by decide) (b := k0_cond14 c) (o3 := k0_off39 c) (o4 := k0_off40 c) (o5 := k0_off41 c) (o6 := k0_off42 c) (o7 := k0_off43 c)
    (d := k0_dev22 c) ⟨rfl, rfl, rfl, rfl, rfl, rfl, rfl⟩ rfl h6) $$ [Hs]
  · isplitr <;> iassumption
  iintro Hs
  iapply (turn_own X Y c 7 (by decide) (b := k0_cond15 c) (o := k0_off44 c) rfl rfl h7) $$ Ho; iintro Ho
  iapply (turn_send X Y K c 7 (by decide) (b := k0_cond16 c) (o3 := k0_off45 c) (o4 := k0_off46 c) (o5 := k0_off47 c) (o6 := k0_off48 c) (o7 := k0_off49 c)
    (d := k0_dev23 c) ⟨rfl, rfl, rfl, rfl, rfl, rfl, rfl⟩ rfl h7) $$ [Hs]
  · isplitr <;> iassumption
  iintro Hs
  iapply (step_operands X Y c 2 (off := k0_off1 c 2#32) (loadOff_eq 2 c)) $$ Hx; iintro Hx
  iapply (runs_pure c)
  iapply Hk
  isplitl [Hx]; · iexact Hx
  isplitl [Hs]; · iexact Hs
  iexact Ho

theorem part7 (c : Dev nD) (v2 v177 : BitVec 32) (v184 v186 v188 : FVec F S128x512 .f32) (hv : k0_pay24 v184 v186 v188 = act (X c) (slab (Y c) (outQ c 2)))
    {Q : _ → sProp 𝕄} :
    iprop(recs X Y K ∗ sends c (left (blkTo c) 8) ∗ outOn X Y c (own c 8))
      ⊢ iprop(((sends c (left (blkTo c) 11) ∗ outOn X Y c (own c 12)) -∗ Q ⟨Scalar.addi v177 3#32, k0_pay31 v184 v186 v188, Scalar.extui (Scalar.cmpi .ne (Scalar.addi v177 3#32) v2)⟩)
        -∗ runs c (k0_part7_skel xM (Memref.isWhole_whole _) wM (Memref.isWhole_whole _) oM (Memref.isWhole_whole _) yM (Memref.isWhole_whole _)
          rM (Memref.isWhole_whole _) cc0_scratch2 cc0_scratch3 c v2 v177 v184 v186 v188) Q) := by
  unfold k0_part7_skel
  extract_lets
  iintro ⟨#Hr, Hs, Ho⟩ Hk
  have h8 := slice_blk X Y c 8 hv rfl slices_S128x512_o0_0_S128x128
  have h9 := slice_blk X Y c 9 hv rfl slices_S128x512_o0_128_S128x128
  have h10 := slice_blk X Y c 10 hv rfl slices_S128x512_o0_256_S128x128
  have h11 := slice_blk X Y c 11 hv rfl slices_S128x512_o0_384_S128x128
  iapply (turn_own X Y c 8 (by decide) (b := k0_cond17 c) (o := k0_off50 c) rfl rfl h8) $$ Ho; iintro Ho
  iapply (turn_send X Y K c 8 (by decide) (b := k0_cond18 c) (o3 := k0_off51 c) (o4 := k0_off52 c) (o5 := k0_off53 c) (o6 := k0_off54 c) (o7 := k0_off55 c)
    (d := k0_dev24 c) ⟨rfl, rfl, rfl, rfl, rfl, rfl, rfl⟩ rfl h8) $$ [Hs]
  · isplitr <;> iassumption
  iintro Hs
  iapply (turn_own X Y c 9 (by decide) (b := k0_cond19 c) (o := k0_off56 c) rfl rfl h9) $$ Ho; iintro Ho
  iapply (turn_send X Y K c 9 (by decide) (b := k0_cond20 c) (o3 := k0_off57 c) (o4 := k0_off58 c) (o5 := k0_off59 c) (o6 := k0_off60 c) (o7 := k0_off61 c)
    (d := k0_dev25 c) ⟨rfl, rfl, rfl, rfl, rfl, rfl, rfl⟩ rfl h9) $$ [Hs]
  · isplitr <;> iassumption
  iintro Hs
  iapply (turn_own X Y c 10 (by decide) (b := k0_cond21 c) (o := k0_off62 c) rfl rfl h10) $$ Ho; iintro Ho
  iapply (turn_send X Y K c 10 (by decide) (b := k0_cond22 c) (o3 := k0_off63 c) (o4 := k0_off64 c) (o5 := k0_off65 c) (o6 := k0_off66 c) (o7 := k0_off67 c)
    (d := k0_dev26 c) ⟨rfl, rfl, rfl, rfl, rfl, rfl, rfl⟩ rfl h10) $$ [Hs]
  · isplitr <;> iassumption
  iintro Hs
  iapply (turn_own X Y c 11 (by decide) (b := k0_cond23 c) (o := k0_off68 c) rfl rfl h11) $$ Ho; iintro Ho
  iapply (runs_pure c)
  iapply Hk
  isplitl [Hs]; · iexact Hs
  iexact Ho

theorem part8 (c : Dev nD) (v2 v3 v222 : BitVec 32) (v223 : FVec F S128x128 .f32) (v228 : BitVec 32) (h11 : v223 = blk X Y c (blkTo c 11))
    {Q : _ → sProp 𝕄} :
    iprop(recs X Y K ∗ operands X Y c ∗ sends c (left (blkTo c) 11) ∗ outOn X Y c (own c 12))
      ⊢ iprop(((operands X Y c ∗ sends c (left (blkTo c) 13) ∗ outOn X Y c (own c 14)) -∗ Q ⟨Scalar.muli (Scalar.remsi (Scalar.addi v3 3#32) 4#32) 4#32, k0_pay33 (X c) (slab (Y c) (outQ c 3)), Scalar.addi (Scalar.muli (Scalar.remsi (Scalar.addi v3 3#32) 4#32) 4#32) 1#32,
          k0_pay36 (X c) (slab (Y c) (outQ c 3)), Scalar.cmpi .ne (Scalar.addi (Scalar.muli (Scalar.remsi (Scalar.addi v3 3#32) 4#32) 4#32) 1#32) v2⟩)
        -∗ runs c (k0_part8_skel xM (Memref.isWhole_whole _) wM (Memref.isWhole_whole _) oM (Memref.isWhole_whole _) yM (Memref.isWhole_whole _)
          rM (Memref.isWhole_whole _) cc0_scratch2 cc0_scratch3 c v2 v3 v222 v223 v228) Q) := by
  unfold k0_part8_skel
  extract_lets
  iintro ⟨#Hr, Hx, Hs, Ho⟩ Hk
  iapply (turn_send X Y K c 11 (by decide) (b := k0_cond24 c) (o3 := k0_off69 c) (o4 := k0_off70 c) (o5 := k0_off71 c) (o6 := k0_off72 c) (o7 := k0_off73 c)
    (d := k0_dev27 c) ⟨rfl, rfl, rfl, rfl, rfl, rfl, rfl⟩ rfl h11) $$ [Hs]
  · isplitr <;> iassumption
  iintro Hs
  iapply (step_operands X Y c 3 (off := k0_off1 c 3#32) (loadOff_eq 3 c)) $$ Hx; iintro Hx
  have h12 := slice_blk X Y c 12 (v := act (X c) (slab (Y c) (outQ c 3))) rfl rfl slices_S128x512_o0_0_S128x128
  have h13 := slice_blk X Y c 13 (v := act (X c) (slab (Y c) (outQ c 3))) rfl rfl slices_S128x512_o0_128_S128x128
  iapply (turn_own X Y c 12 (by decide) (b := k0_cond25 c) (o := k0_off74 c) rfl rfl h12) $$ Ho; iintro Ho
  iapply (turn_send X Y K c 12 (by decide) (b := k0_cond26 c) (o3 := k0_off75 c) (o4 := k0_off76 c) (o5 := k0_off77 c) (o6 := k0_off78 c) (o7 := k0_off79 c)
    (d := k0_dev28 c) ⟨rfl, rfl, rfl, rfl, rfl, rfl, rfl⟩ rfl h12) $$ [Hs]
  · isplitr <;> iassumption
  iintro Hs
  iapply (turn_own X Y c 13 (by decide) (b := k0_cond27 c) (o := k0_off80 c) rfl rfl h13) $$ Ho; iintro Ho
  iapply (runs_pure c)
  iapply Hk
  isplitl [Hx]; · iexact Hx
  isplitl [Hs]; · iexact Hs
  iexact Ho

end Cert.Scatter

end
-- ==== Proof.Receive.lean ====
/-
# The kernel's parts that receive

The printed body from the last block sent to the end: what the device holds before and after each part.
-/
module

public import proofs.«01_k».proof.Proof.Turns

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → Vec F S128x2048 .f32) (Y : Dev nD → Vec F S2048x2048 .f32) (K : Dev nD × Kind → ℕ)

attribute [local irreducible]
  k0_cond1 k0_cond2 k0_cond3 k0_cond4 k0_cond5 k0_cond6 k0_cond7 k0_cond8 k0_cond9 k0_cond10 k0_cond11 k0_cond12
  k0_cond13 k0_cond14 k0_cond15 k0_cond16 k0_cond17 k0_cond18 k0_cond19 k0_cond20 k0_cond21 k0_cond22 k0_cond23
  k0_cond24 k0_cond25 k0_cond26 k0_cond27 k0_cond28 k0_cond29 k0_cond30 k0_cond31 k0_cond32 k0_cond33 k0_cond34
  k0_cond35 k0_cond36 k0_cond37 k0_cond38 k0_cond39 k0_cond40 k0_cond41 k0_cond42 k0_cond43 k0_cond44 k0_cond45
  k0_cond46 k0_cond47 k0_cond48 k0_cond49 k0_cond50 k0_cond51 k0_cond52 k0_off1 k0_off2 k0_off3 k0_off4 k0_off5
  k0_off6 k0_off7 k0_off8 k0_off9 k0_off10 k0_off11 k0_off12 k0_off13 k0_off14 k0_off15 k0_off16 k0_off17
  k0_off18 k0_off19 k0_off20 k0_off21 k0_off22 k0_off23 k0_off24 k0_off25 k0_off26 k0_off27 k0_off28 k0_off29
  k0_off30 k0_off31 k0_off32 k0_off33 k0_off34 k0_off35 k0_off36 k0_off37 k0_off38 k0_off39 k0_off40 k0_off41
  k0_off42 k0_off43 k0_off44 k0_off45 k0_off46 k0_off47 k0_off48 k0_off49 k0_off50 k0_off51 k0_off52 k0_off53
  k0_off54 k0_off55 k0_off56 k0_off57 k0_off58 k0_off59 k0_off60 k0_off61 k0_off62 k0_off63 k0_off64 k0_off65
  k0_off66 k0_off67 k0_off68 k0_off69 k0_off70 k0_off71 k0_off72 k0_off73 k0_off74 k0_off75 k0_off76 k0_off77
  k0_off78 k0_off79 k0_off80 k0_off81 k0_off82 k0_off83 k0_off84 k0_off85 k0_off86 k0_off87 k0_off88 k0_off89
  k0_off90 k0_off91 k0_off92 k0_off93 k0_off94 k0_off95 k0_off96 k0_off97 k0_off98 k0_off99 k0_off100 k0_off101
  k0_off102 k0_off103 k0_off104 k0_off105 k0_off106 k0_off107 k0_off108 k0_off109 k0_off110 k0_off111 k0_off112
  k0_off113 k0_off114 k0_off115 k0_off116 k0_off117 k0_off118 k0_off119 k0_off120 k0_off121 k0_off122 k0_off123
  k0_off124 k0_off125 k0_off126 k0_off127 k0_off128 k0_off129 k0_off130 k0_off131 k0_off132 k0_off133 k0_off134
  k0_off135 k0_off136 k0_off137 k0_off138 k0_off139 k0_dev1 k0_dev2 k0_dev3 k0_dev4 k0_dev5 k0_dev6 k0_dev7
  k0_dev8 k0_dev9 k0_dev10 k0_dev11 k0_dev12 k0_dev13 k0_dev14 k0_dev15 k0_dev16 k0_dev17 k0_dev18 k0_dev19
  k0_dev20 k0_dev21 k0_dev22 k0_dev23 k0_dev24 k0_dev25 k0_dev26 k0_dev27 k0_dev28 k0_dev29 k0_dev30 k0_dev31

/-- The `n`-th wait for a block, as printed. -/
theorem turn_recv {α : Type} {Q : α → sProp 𝕄} (c : Dev nD) (n : ℕ) (hn : n < 16) {b : BitVec 1} (hb : b = recvCond ⟨n, hn⟩ c)
    {o1 : Fin 1 → Nat} (h1 : o1 = recvSem ⟨n, hn⟩ c) {o3 : Fin 3 → Nat} (h3 : o3 = recvOff ⟨n, hn⟩ c)
    {i1 : b = 1#1 → SemIn o1} {i3 : b = 1#1 → SlotIn o3} {u : ∀ h, (rAt o3 (i3 h)).view.WordExact} {u' : ∀ h, (rAt o3 (i3 h)).view.WordExact}
    {k : Prog (TpuEff nD τ sig (Elt F) Λ₀ .tc) α} :
    iprop(recs X Y K ∗ recvs X Y c (left (blkFrom c) n))
      ⊢ iprop((recvs X Y c (left (blkFrom c) (n + 1)) -∗ runs c k Q)
        -∗ runs c
          (if h : b = 1#1 then
            Prog.lift (.waitDma2 (recvAt o1 (i1 h)) (rAt o3 (i3 h)) (rAt o3 (i3 h)) (u h) (u' h)) >>= fun _ => k
          else k) Q) :=
  step_recv X Y K c (blkFrom c n) (blkFrom_next c n hn) (by rw [hb]; exact recvCond_iff ⟨n, hn⟩ c) (h1.trans (recvSem_eq ⟨n, hn⟩ c)) (h3.trans (recvOff_eq ⟨n, hn⟩ c))

/-- The copy of the `n`-th slot received, as printed. -/
theorem turn_copy {α : Type} {Q : α → sProp 𝕄} (c : Dev nD) (n : ℕ) (hn : n < 4) {R D : Finset (Dev nD)} (hR : blkFrom c n ∉ R) (hD : c ∈ D)
    {b : BitVec 1} (hb : b = copyCond ⟨n, hn⟩ c) {o : Fin 2 → Nat} (h2 : o = copyTo ⟨n, hn⟩ c) {o3 : Fin 3 → Nat} (h3 : o3 = copyOff ⟨n, hn⟩ c)
    {i2 : b = 1#1 → ∀ a, o a + S128x128.size a ≤ S2048x128.size a} {i3 : b = 1#1 → SlotIn o3}
    {v : ∀ h, rM.view.LoadsAt (Rect.unit (s := S16x128x128) o3 S1x128x128.size (i3 h)).toLoadRect}
    {u : ∀ h, oM.view.LoadsAt (Rect.unit (s := S2048x128) o S128x128.size (i2 h)).toLoadRect}
    {u' : ∀ h, (oM.access (Rect.unit (s := S2048x128) o S128x128.size (i2 h))).Stores Finset.univ}
    {k : Prog (TpuEff nD τ sig (Elt F) Λ₀ .tc) α} :
    iprop(recvs X Y c R ∗ outOn X Y c D)
      ⊢ iprop(((recvs X Y c R ∗ outOn X Y c (insert (blkFrom c n) D)) -∗ runs c k Q)
        -∗ runs c
          (if h : b = 1#1 then
            Prog.lift (.load rM (Rect.unit (s := S16x128x128) o3 S1x128x128.size (i3 h)).toLoadRect (v h)) >>= fun a : Vec F S1x128x128 .bf16 =>
            Prog.lift (.load oM (Rect.unit (s := S2048x128) o S128x128.size (i2 h)).toLoadRect (u h)) >>= fun _ =>
            Prog.lift (.store oM (Rect.unit (s := S2048x128) o S128x128.size (i2 h)) (k0_pay42 a) Finset.univ (u' h) (.inl rfl)) >>= fun _ => k
          else k) Q) :=
  step_copy X Y c (blkFrom c n) hR hD (by rw [hb]; exact copyCond_iff ⟨n, hn⟩ c) ⟨h2.trans (copy_eq ⟨n, hn⟩ c).1, h3.trans (copy_eq ⟨n, hn⟩ c).2⟩

/-- The final wait for the transfer to device `n`, as printed. -/
theorem turn_read {α : Type} {Q : α → sProp 𝕄} (c : Dev nD) (n : ℕ) (hn : n < 16) {b : BitVec 1} (hb : b = readCond c (BitVec.ofNat 32 n))
    {o1 : Fin 1 → Nat} (h1 : o1 = ![(readTo n).val]) {o3 : Fin 3 → Nat} (h3 : o3 = ![(readTo n).val, 0, 0])
    {i1 : b = 1#1 → SemIn o1} {i3 : b = 1#1 → SlotIn o3} {u : ∀ h, (yAt o3 (i3 h)).view.WordExact} {u' : ∀ h, (yAt o3 (i3 h)).view.WordExact}
    {k : Prog (TpuEff nD τ sig (Elt F) Λ₀ .tc) α} :
    iprop(recs X Y K ∗ reads X Y c (left readTo n))
      ⊢ iprop((reads X Y c (left readTo (n + 1)) -∗ runs c k Q)
        -∗ runs c
          (if h : b = 1#1 then
            Prog.lift (.waitDma2 (sendAt o1 (i1 h)) (yAt o3 (i3 h)) (yAt o3 (i3 h)) (u h) (u' h)) >>= fun _ => k
          else k) Q) :=
  step_read X Y K c (readTo n) (readTo_next n hn) (by rw [hb]; exact readCond_iff ⟨n, hn⟩ c) h1 h3

/-! ## From sending to receiving -/

/-- What device `c` holds of the blocks it will receive, and of the transfers it has issued. -/
def awaits (c : Dev nD) : sProp 𝕄 :=
  bigSep (Finset.univ.erase c) fun i => iprop(cred (tallyAt (recvCell c i) () credit) ∗ atPos ER (recvCell c i) 0 ∅ 0)
def issued (c : Dev nD) : sProp 𝕄 := bigSep (Finset.univ.erase c) fun j => cred (tallyAt (sendCell c j) () credit)

theorem sends_end (c : Dev nD) :
    iprop(sends c (left (blkTo c) 16) ∗ awaits c) ⊢ (iprop(recvs X Y c (left (blkFrom c) 0) ∗ issued c) : sProp 𝕄) := by
  unfold sends recvs awaits issued
  rw [left_end, blkFrom_start, Finset.sdiff_eq_empty_iff_subset.mpr (Finset.subset_univ _), Finset.sdiff_empty, Finset.erase_empty, owe_none]
  iintro ⟨⟨HO, -, Hc⟩, Ha⟩
  isplitr [Hc]
  · isplitl [HO]; · iexact HO
    isplitl [Ha]; · iexact Ha
    rw [bigSep_empty, bigSep_empty]
    isplitr <;> iempintro
  iexact Hc

/-! ## The parts -/

theorem part9 (c : Dev nD) (v2 v3 v232 : BitVec 32) (v252 : FVec F S128x512 .f32) (v261 : BitVec 32) (v262 : FVec F S128x128 .f32) (v266 : BitVec 1)
    (hv : v252 = act (X c) (slab (Y c) (outQ c 3))) (h13 : v262 = blk X Y c (blkTo c 13))
    {Q : _ → sProp 𝕄} :
    iprop(recs X Y K ∗ (sends c (left (blkTo c) 13) ∗ outOn X Y c (own c 14)) ∗ awaits c)
      ⊢ iprop(((recvs X Y c (left (blkFrom c) 3) ∗ issued c ∗ outOn X Y c {c}) -∗ Q ⟨Scalar.muli (Scalar.remsi (Scalar.addi (Scalar.subi v3 0#32) 4#32) 4#32) 4#32, 3#32⟩)
        -∗ runs c (k0_part9_skel xM (Memref.isWhole_whole _) wM (Memref.isWhole_whole _) oM (Memref.isWhole_whole _) yM (Memref.isWhole_whole _)
          rM (Memref.isWhole_whole _) cc0_scratch2 cc0_scratch3 c v2 v3 v232 v252 v261 v262 v266) Q) := by
  unfold k0_part9_skel
  extract_lets
  iintro ⟨#Hr, ⟨Hs, Ho⟩, Ha⟩ Hk
  have h14 := slice_blk X Y c 14 hv rfl slices_S128x512_o0_256_S128x128
  have h15 := slice_blk X Y c 15 hv rfl slices_S128x512_o0_384_S128x128
  iapply (turn_send X Y K c 13 (by decide) (b := k0_cond28 c) (o3 := k0_off81 c) (o4 := k0_off82 c) (o5 := k0_off83 c) (o6 := k0_off84 c) (o7 := k0_off85 c)
    (d := k0_dev29 c) ⟨rfl, rfl, rfl, rfl, rfl, rfl, rfl⟩ rfl h13) $$ [Hs]
  · isplitr <;> iassumption
  iintro Hs
  iapply (turn_own X Y c 14 (by decide) (b := k0_cond29 c) (o := k0_off86 c) rfl rfl h14) $$ Ho; iintro Ho
  iapply (turn_send X Y K c 14 (by decide) (b := k0_cond30 c) (o3 := k0_off87 c) (o4 := k0_off88 c) (o5 := k0_off89 c) (o6 := k0_off90 c) (o7 := k0_off91 c)
    (d := k0_dev30 c) ⟨rfl, rfl, rfl, rfl, rfl, rfl, rfl⟩ rfl h14) $$ [Hs]
  · isplitr <;> iassumption
  iintro Hs
  iapply (turn_own X Y c 15 (by decide) (b := k0_cond31 c) (o := k0_off92 c) rfl rfl h15) $$ Ho; iintro Ho
  iapply (turn_send X Y K c 15 (by decide) (b := k0_cond32 c) (o3 := k0_off93 c) (o4 := k0_off94 c) (o5 := k0_off95 c) (o6 := k0_off96 c) (o7 := k0_off97 c)
    (d := k0_dev31 c) ⟨rfl, rfl, rfl, rfl, rfl, rfl, rfl⟩ rfl h15) $$ [Hs]
  · isplitr <;> iassumption
  iintro Hs
  ihave Hv := (sends_end X Y c) $$ [Hs Ha]
  · isplitl [Hs] <;> iassumption
  icases Hv with ⟨Hv, Hc⟩
  iapply (turn_recv X Y K c 0 (by decide) (b := k0_cond33 c) (o1 := k0_off98 c) (o3 := k0_off99 c) rfl rfl rfl) $$ [Hv]
  · isplitr <;> iassumption
  iintro Hv
  iapply (turn_recv X Y K c 1 (by decide) (b := k0_cond34 c) (o1 := k0_off100 c) (o3 := k0_off101 c) rfl rfl rfl) $$ [Hv]
  · isplitr <;> iassumption
  iintro Hv
  iapply (turn_recv X Y K c 2 (by decide) (b := k0_cond35 c) (o1 := k0_off102 c) (o3 := k0_off103 c) rfl rfl rfl) $$ [Hv]
  · isplitr <;> iassumption
  iintro Hv
  iapply (runs_pure c)
  iapply Hk
  rw [← own_end c]
  isplitl [Hv]; · iexact Hv
  isplitl [Hc]; · iexact Hc
  iexact Ho

theorem part10 (c : Dev nD) (v2 v3 v288 v : BitVec 32)
    {Q : _ → sProp 𝕄} :
    iprop(recs X Y K ∗ recvs X Y c (left (blkFrom c) 3) ∗ outOn X Y c {c})
      ⊢ iprop(((recvs X Y c (left (blkFrom c) 6) ∗ outOn X Y c (insert (blkFrom c 3) (insert (blkFrom c 2) (insert (blkFrom c 1) (insert (blkFrom c 0) {c}))))) -∗ Q ⟨Scalar.muli (Scalar.remsi (Scalar.addi (Scalar.subi v3 1#32) 4#32) 4#32) 4#32, Scalar.extui (Scalar.cmpi .ne (Scalar.addi (Scalar.muli (Scalar.remsi (Scalar.addi (Scalar.subi v3 1#32) 4#32) 4#32) 4#32) 2#32) v2)⟩)
        -∗ runs c (k0_part10_skel xM (Memref.isWhole_whole _) wM (Memref.isWhole_whole _) oM (Memref.isWhole_whole _) yM (Memref.isWhole_whole _)
          rM (Memref.isWhole_whole _) cc0_scratch2 cc0_scratch3 c v2 v3 v288 v) Q) := by
  unfold k0_part10_skel
  extract_lets
  iintro ⟨#Hr, Hv, Ho⟩ Hk
  obtain ⟨past0, past1, past2, past3⟩ := copy_past c
  have mem0 := Finset.mem_singleton_self c
  have mem1 := Finset.mem_insert_of_mem (b := blkFrom c 0) mem0
  have mem2 := Finset.mem_insert_of_mem (b := blkFrom c 1) mem1
  have mem3 := Finset.mem_insert_of_mem (b := blkFrom c 2) mem2
  iapply (turn_recv X Y K c 3 (by decide) (b := k0_cond36 c) (o1 := k0_off104 c) (o3 := k0_off105 c) rfl rfl rfl) $$ [Hv]
  · isplitr <;> iassumption
  iintro Hv
  iapply (turn_copy X Y c 0 (by decide) past0 mem0 (b := k0_cond37 c) (o := k0_off107 c) (o3 := k0_off106 c) rfl rfl rfl) $$ [Hv Ho]
  · isplitl [Hv] <;> iassumption
  iintro ⟨Hv, Ho⟩
  iapply (turn_copy X Y c 1 (by decide) past1 mem1 (b := k0_cond38 c) (o := k0_off109 c) (o3 := k0_off108 c) rfl rfl rfl) $$ [Hv Ho]
  · isplitl [Hv] <;> iassumption
  iintro ⟨Hv, Ho⟩
  iapply (turn_copy X Y c 2 (by decide) past2 mem2 (b := k0_cond39 c) (o := k0_off111 c) (o3 := k0_off110 c) rfl rfl rfl) $$ [Hv Ho]
  · isplitl [Hv] <;> iassumption
  iintro ⟨Hv, Ho⟩
  iapply (turn_copy X Y c 3 (by decide) past3 mem3 (b := k0_cond40 c) (o := k0_off113 c) (o3 := k0_off112 c) rfl rfl rfl) $$ [Hv Ho]
  · isplitl [Hv] <;> iassumption
  iintro ⟨Hv, Ho⟩
  iapply (turn_recv X Y K c 4 (by decide) (b := k0_cond41 c) (o1 := k0_off114 c) (o3 := k0_off115 c) rfl rfl rfl) $$ [Hv]
  · isplitr <;> iassumption
  iintro Hv
  iapply (turn_recv X Y K c 5 (by decide) (b := k0_cond42 c) (o1 := k0_off116 c) (o3 := k0_off117 c) rfl rfl rfl) $$ [Hv]
  · isplitr <;> iassumption
  iintro Hv
  iapply (runs_pure c)
  iapply Hk
  isplitl [Hv]; · iexact Hv
  iexact Ho

theorem part11 (c : Dev nD) (v2 v3 v324 v335 : BitVec 32) {D : Finset (Dev nD)}
    {Q : _ → sProp 𝕄} :
    iprop(recs X Y K ∗ recvs X Y c (left (blkFrom c) 6) ∗ outOn X Y c D)
      ⊢ iprop(((recvs X Y c (left (blkFrom c) 12) ∗ outOn X Y c (D ∪ quad (inQ c 1))) -∗ Q (Scalar.muli (Scalar.remsi (Scalar.addi (Scalar.subi v3 2#32) 4#32) 4#32) 4#32))
        -∗ runs c (k0_part11_skel xM (Memref.isWhole_whole _) wM (Memref.isWhole_whole _) oM (Memref.isWhole_whole _) yM (Memref.isWhole_whole _)
          rM (Memref.isWhole_whole _) cc0_scratch2 cc0_scratch3 c v2 v3 v324 v335) Q) := by
  unfold k0_part11_skel
  extract_lets
  iintro ⟨#Hr, Hv, Ho⟩ Hk
  iapply (turn_recv X Y K c 6 (by decide) (b := k0_cond43 c) (o1 := k0_off118 c) (o3 := k0_off119 c) rfl rfl rfl) $$ [Hv]
  · isplitr <;> iassumption
  iintro Hv
  iapply (turn_recv X Y K c 7 (by decide) (b := k0_cond44 c) (o1 := k0_off120 c) (o3 := k0_off121 c) rfl rfl rfl) $$ [Hv]
  · isplitr <;> iassumption
  iintro Hv
  iapply (step_quad X Y c (inQ c 1) (quad_other c).1 (o := k0_off123 c 1#32) (o3 := k0_off122 c 1#32) (quad_eq 1 c)) $$ [Hv Ho]
  · isplitl [Hv] <;> iassumption
  iintro ⟨Hv, Ho⟩
  iapply (turn_recv X Y K c 8 (by decide) (b := k0_cond45 c) (o1 := k0_off124 c) (o3 := k0_off125 c) rfl rfl rfl) $$ [Hv]
  · isplitr <;> iassumption
  iintro Hv
  iapply (turn_recv X Y K c 9 (by decide) (b := k0_cond46 c) (o1 := k0_off126 c) (o3 := k0_off127 c) rfl rfl rfl) $$ [Hv]
  · isplitr <;> iassumption
  iintro Hv
  iapply (turn_recv X Y K c 10 (by decide) (b := k0_cond47 c) (o1 := k0_off128 c) (o3 := k0_off129 c) rfl rfl rfl) $$ [Hv]
  · isplitr <;> iassumption
  iintro Hv
  iapply (turn_recv X Y K c 11 (by decide) (b := k0_cond48 c) (o1 := k0_off130 c) (o3 := k0_off131 c) rfl rfl rfl) $$ [Hv]
  · isplitr <;> iassumption
  iintro Hv
  iapply (runs_pure c)
  iapply Hk
  isplitl [Hv]; · iexact Hv
  iexact Ho

theorem part12 (c : Dev nD) (v2 v3 v351 : BitVec 32) {D : Finset (Dev nD)}
    {Q : _ → sProp 𝕄} :
    iprop(recs X Y K ∗ recvs X Y c (left (blkFrom c) 12) ∗ outOn X Y c D)
      ⊢ iprop(((recvs X Y c (left (blkFrom c) 16) ∗ outOn X Y c (D ∪ quad (inQ c 2) ∪ quad (inQ c 3))) -∗ Q (Scalar.cmpi .ne v2 0#32))
        -∗ runs c (k0_part12_skel xM (Memref.isWhole_whole _) wM (Memref.isWhole_whole _) oM (Memref.isWhole_whole _) yM (Memref.isWhole_whole _)
          rM (Memref.isWhole_whole _) cc0_scratch2 cc0_scratch3 c v2 v3 v351) Q) := by
  unfold k0_part12_skel
  extract_lets
  iintro ⟨#Hr, Hv, Ho⟩ Hk
  iapply (step_quad X Y c (inQ c 2) (quad_other c).2.1 (o := k0_off123 c 2#32) (o3 := k0_off122 c 2#32) (quad_eq 2 c)) $$ [Hv Ho]
  · isplitl [Hv] <;> iassumption
  iintro ⟨Hv, Ho⟩
  iapply (turn_recv X Y K c 12 (by decide) (b := k0_cond49 c) (o1 := k0_off132 c) (o3 := k0_off133 c) rfl rfl rfl) $$ [Hv]
  · isplitr <;> iassumption
  iintro Hv
  iapply (turn_recv X Y K c 13 (by decide) (b := k0_cond50 c) (o1 := k0_off134 c) (o3 := k0_off135 c) rfl rfl rfl) $$ [Hv]
  · isplitr <;> iassumption
  iintro Hv
  iapply (turn_recv X Y K c 14 (by decide) (b := k0_cond51 c) (o1 := k0_off136 c) (o3 := k0_off137 c) rfl rfl rfl) $$ [Hv]
  · isplitr <;> iassumption
  iintro Hv
  iapply (turn_recv X Y K c 15 (by decide) (b := k0_cond52 c) (o1 := k0_off138 c) (o3 := k0_off139 c) rfl rfl rfl) $$ [Hv]
  · isplitr <;> iassumption
  iintro Hv
  iapply (step_quad X Y c (inQ c 3) (quad_other c).2.2 (o := k0_off123 c 3#32) (o3 := k0_off122 c 3#32) (quad_eq 3 c)) $$ [Hv Ho]
  · isplitl [Hv] <;> iassumption
  iintro ⟨Hv, Ho⟩
  iapply (runs_pure c)
  iapply Hk
  isplitl [Hv]; · iexact Hv
  iexact Ho

theorem part13 (c : Dev nD)
    {Q : _ → sProp 𝕄} :
    iprop(recs X Y K ∗ reads X Y c (left readTo 0))
      ⊢ iprop(((reads X Y c (left readTo 10)) -∗ Q (Scalar.cmpi .ne (Scalar.remsi (Scalar.divsi (Dev.word c) 1#32) 16#32) 10#32))
        -∗ runs c (k0_part13_skel xM (Memref.isWhole_whole _) wM (Memref.isWhole_whole _) oM (Memref.isWhole_whole _) yM (Memref.isWhole_whole _)
          rM (Memref.isWhole_whole _) cc0_scratch2 cc0_scratch3 (Scalar.remsi (Scalar.divsi (Dev.word c) 1#32) 16#32)
          (Scalar.cmpi .ne (Scalar.remsi (Scalar.divsi (Dev.word c) 1#32) 16#32) 0#32)) Q) := by
  unfold k0_part13_skel
  extract_lets
  iintro ⟨#Hr, Hv⟩ Hk
  iapply (turn_read X Y K c 0 (by decide) (b := readCond c 0#32) (o1 := ![0]) (o3 := ![0, 0, 0]) rfl rfl rfl) $$ [Hv]
  · isplitr <;> iassumption
  iintro Hv
  iapply (turn_read X Y K c 1 (by decide) (b := readCond c 1#32) (o1 := ![1]) (o3 := ![1, 0, 0]) rfl rfl rfl) $$ [Hv]
  · isplitr <;> iassumption
  iintro Hv
  iapply (turn_read X Y K c 2 (by decide) (b := readCond c 2#32) (o1 := ![2]) (o3 := ![2, 0, 0]) rfl rfl rfl) $$ [Hv]
  · isplitr <;> iassumption
  iintro Hv
  iapply (turn_read X Y K c 3 (by decide) (b := readCond c 3#32) (o1 := ![3]) (o3 := ![3, 0, 0]) rfl rfl rfl) $$ [Hv]
  · isplitr <;> iassumption
  iintro Hv
  iapply (turn_read X Y K c 4 (by decide) (b := readCond c 4#32) (o1 := ![4]) (o3 := ![4, 0, 0]) rfl rfl rfl) $$ [Hv]
  · isplitr <;> iassumption
  iintro Hv
  iapply (turn_read X Y K c 5 (by decide) (b := readCond c 5#32) (o1 := ![5]) (o3 := ![5, 0, 0]) rfl rfl rfl) $$ [Hv]
  · isplitr <;> iassumption
  iintro Hv
  iapply (turn_read X Y K c 6 (by decide) (b := readCond c 6#32) (o1 := ![6]) (o3 := ![6, 0, 0]) rfl rfl rfl) $$ [Hv]
  · isplitr <;> iassumption
  iintro Hv
  iapply (turn_read X Y K c 7 (by decide) (b := readCond c 7#32) (o1 := ![7]) (o3 := ![7, 0, 0]) rfl rfl rfl) $$ [Hv]
  · isplitr <;> iassumption
  iintro Hv
  iapply (turn_read X Y K c 8 (by decide) (b := readCond c 8#32) (o1 := ![8]) (o3 := ![8, 0, 0]) rfl rfl rfl) $$ [Hv]
  · isplitr <;> iassumption
  iintro Hv
  iapply (turn_read X Y K c 9 (by decide) (b := readCond c 9#32) (o1 := ![9]) (o3 := ![9, 0, 0]) rfl rfl rfl) $$ [Hv]
  · isplitr <;> iassumption
  iintro Hv
  iapply (runs_pure c)
  iapply Hk
  iexact Hv

end Cert.Scatter

end
-- ==== Proof.Body.lean ====
/-
# The whole body at a symbolic device

The printed body, part after part, from what the launch gives device `c` to its result holding every row block.
-/
module

public import proofs.«01_k».proof.Proof.Receive

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → Vec F S128x2048 .f32) (Y : Dev nD → Vec F S2048x2048 .f32) (K : Dev nD × Kind → ℕ)

attribute [local irreducible]
  k0_cond1 k0_cond2 k0_cond3 k0_cond4 k0_cond5 k0_cond6 k0_cond7 k0_cond8 k0_cond9 k0_cond10 k0_cond11 k0_cond12
  k0_cond13 k0_cond14 k0_cond15 k0_cond16 k0_cond17 k0_cond18 k0_cond19 k0_cond20 k0_cond21 k0_cond22 k0_cond23
  k0_cond24 k0_cond25 k0_cond26 k0_cond27 k0_cond28 k0_cond29 k0_cond30 k0_cond31 k0_cond32 k0_cond33 k0_cond34
  k0_cond35 k0_cond36 k0_cond37 k0_cond38 k0_cond39 k0_cond40 k0_cond41 k0_cond42 k0_cond43 k0_cond44 k0_cond45
  k0_cond46 k0_cond47 k0_cond48 k0_cond49 k0_cond50 k0_cond51 k0_cond52 k0_off1 k0_off2 k0_off3 k0_off4 k0_off5
  k0_off6 k0_off7 k0_off8 k0_off9 k0_off10 k0_off11 k0_off12 k0_off13 k0_off14 k0_off15 k0_off16 k0_off17
  k0_off18 k0_off19 k0_off20 k0_off21 k0_off22 k0_off23 k0_off24 k0_off25 k0_off26 k0_off27 k0_off28 k0_off29
  k0_off30 k0_off31 k0_off32 k0_off33 k0_off34 k0_off35 k0_off36 k0_off37 k0_off38 k0_off39 k0_off40 k0_off41
  k0_off42 k0_off43 k0_off44 k0_off45 k0_off46 k0_off47 k0_off48 k0_off49 k0_off50 k0_off51 k0_off52 k0_off53
  k0_off54 k0_off55 k0_off56 k0_off57 k0_off58 k0_off59 k0_off60 k0_off61 k0_off62 k0_off63 k0_off64 k0_off65
  k0_off66 k0_off67 k0_off68 k0_off69 k0_off70 k0_off71 k0_off72 k0_off73 k0_off74 k0_off75 k0_off76 k0_off77
  k0_off78 k0_off79 k0_off80 k0_off81 k0_off82 k0_off83 k0_off84 k0_off85 k0_off86 k0_off87 k0_off88 k0_off89
  k0_off90 k0_off91 k0_off92 k0_off93 k0_off94 k0_off95 k0_off96 k0_off97 k0_off98 k0_off99 k0_off100 k0_off101
  k0_off102 k0_off103 k0_off104 k0_off105 k0_off106 k0_off107 k0_off108 k0_off109 k0_off110 k0_off111 k0_off112
  k0_off113 k0_off114 k0_off115 k0_off116 k0_off117 k0_off118 k0_off119 k0_off120 k0_off121 k0_off122 k0_off123
  k0_off124 k0_off125 k0_off126 k0_off127 k0_off128 k0_off129 k0_off130 k0_off131 k0_off132 k0_off133 k0_off134
  k0_off135 k0_off136 k0_off137 k0_off138 k0_off139 k0_dev1 k0_dev2 k0_dev3 k0_dev4 k0_dev5 k0_dev6 k0_dev7
  k0_dev8 k0_dev9 k0_dev10 k0_dev11 k0_dev12 k0_dev13 k0_dev14 k0_dev15 k0_dev16 k0_dev17 k0_dev18 k0_dev19
  k0_dev20 k0_dev21 k0_dev22 k0_dev23 k0_dev24 k0_dev25 k0_dev26 k0_dev27 k0_dev28 k0_dev29 k0_dev30 k0_dev31

/-- Device `c`'s positions at its send semaphores. -/
def sendPos (c : Dev nD) : sProp 𝕄 := bigSep (Finset.univ.erase c) fun j => atPos ER (sendCell c j) 0 ∅ 0

/-- Every block received: the slots, and the semaphores at zero. -/
def received (c : Dev nD) : sProp 𝕄 :=
  iprop((bigSep (Finset.univ.erase c) fun i => rOn c (slot i) (landed X Y c)) ∗ bigSep (Finset.univ.erase c) fun i => semVal (recvCell c i) 0)
/-- Every transfer read: the slots, and the semaphores at zero. -/
def released (c : Dev nD) : sProp 𝕄 :=
  iprop((bigSep (Finset.univ.erase c) fun j => yOn c (slot j) (sent X Y c)) ∗ bigSep (Finset.univ.erase c) fun j => semVal (sendCell c j) 0)

theorem recvs_end (c : Dev nD) : recvs X Y c (left (blkFrom c) 16) ⊢ (iprop(owesE c 0 ∗ received X Y c) : sProp 𝕄) := by
  unfold recvs received
  rw [left_end, Finset.sdiff_empty]
  iintro ⟨HO, -, Hs, Hz⟩
  isplitl [HO]; · iexact HO
  isplitl [Hs] <;> iassumption

theorem reads_start (c : Dev nD) : iprop(owesE c 0 ∗ issued c ∗ sendPos c) ⊢ (reads X Y c (left readTo 0) : sProp 𝕄) := by
  unfold reads issued sendPos
  rw [readTo_start, Finset.sdiff_eq_empty_iff_subset.mpr (Finset.subset_univ _), bigSep_empty, bigSep_empty, ← bigSep_sep']
  iintro ⟨HO, H⟩
  isplitl [HO]; · iexact HO
  isplitl [H]; · iexact H
  isplitr <;> iempintro

theorem reads_end (c : Dev nD) : reads X Y c (left readTo 16) ⊢ (iprop(owesE c 0 ∗ released X Y c) : sProp 𝕄) := by
  unfold reads released
  rw [left_end, Finset.sdiff_empty]
  iintro ⟨HO, -, Hs, Hz⟩
  isplitl [HO]; · iexact HO
  isplitl [Hs] <;> iassumption

/-- What device `c` runs the body from, and what it has after it. -/
def before (c : Dev nD) : sProp 𝕄 :=
  iprop((owesE c (owe c (Finset.univ.erase c) (Finset.univ.erase c)) ∗ signals c (Finset.univ.erase c)) ∗ operands X Y c
    ∗ (cred (tallyAt (barCell c) () 15) ∗ atPos ER (barCell c) 0 ∅ 0) ∗ ready c ∗ awaits c ∗ sendPos c ∗ outOn X Y c ∅)
def past (c : Dev nD) : sProp 𝕄 :=
  iprop(owesE c 0 ∗ operands X Y c ∗ semVal (barCell c) 0 ∗ received X Y c ∗ released X Y c ∗ outOn X Y c Finset.univ)

set_option maxHeartbeats 2000000 in
theorem body_run (c : Dev nD) {Q : PUnit → sProp 𝕄} :
    iprop(recs X Y K ∗ before X Y c)
      ⊢ iprop((past X Y c -∗ Q ⟨⟩) -∗ runs c (cc0_body_skel xM (Memref.isWhole_whole _) wM (Memref.isWhole_whole _) oM (Memref.isWhole_whole _) yM (Memref.isWhole_whole _)
          rM (Memref.isWhole_whole _) cc0_scratch2 cc0_scratch3) Q) := by
  unfold cc0_body_skel before
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton]
  unfold runs
  iintro ⟨#Hr, HO, Hx, ⟨Hcb, Hpb⟩, Hy, Ha, Hp, Ho⟩ Hk
  rw [wp_bind]
  iapply (part1 X Y K c) $$ [HO]
  · isplitr; · iexact Hr
    rw [sigTo_start]
    iexact HO
  iintro HO
  try dsimp only
  rw [wp_bind]
  iapply (part2 X Y K c _ _) $$ [HO]
  · isplitr; · iexact Hr
    iexact HO
  iintro HO
  try dsimp only
  rw [wp_bind]
  iapply (part3 X Y K c _ _ _) $$ [HO Hx]
  · isplitr; · iexact Hr
    isplitl [HO]; · iexact HO
    iexact Hx
  iintro ⟨HO, Hx⟩
  try dsimp only
  rw [wp_bind]
  iapply (part4 X Y K c _ _ _ _ rfl) $$ [HO Hcb Hpb Hy Ho]
  · isplitr; · iexact Hr
    isplitl [HO Hcb Hpb]
    · isplitl [HO]; · iexact HO
      isplitl [Hcb] <;> iassumption
    rw [own_start]
    isplitl [Hy] <;> iassumption
  iintro ⟨Hz, Hs, Ho⟩
  try dsimp only
  rw [wp_bind]
  iapply (part5 X Y K c _ _ _ _ _ (slice_blk X Y c 3 rfl rfl slices_S128x512_o0_384_S128x128)) $$ [Hx Hs Ho]
  · isplitr; · iexact Hr
    isplitl [Hx]; · iexact Hx
    isplitl [Hs]; · iexact Hs
    iexact Ho
  iintro ⟨Hx, Hs, Ho⟩
  try dsimp only
  rw [wp_bind]
  iapply (part6 X Y K c _ _ _ _ _ _ rfl (slice_blk X Y c 5 rfl rfl slices_S128x512_o0_128_S128x128)) $$ [Hx Hs Ho]
  · isplitr; · iexact Hr
    isplitl [Hx]; · iexact Hx
    isplitl [Hs]; · iexact Hs
    iexact Ho
  iintro ⟨Hx, Hs, Ho⟩
  try dsimp only
  rw [wp_bind]
  iapply (part7 X Y K c _ _ _ _ _ rfl) $$ [Hs Ho]
  · isplitr; · iexact Hr
    isplitl [Hs]; · iexact Hs
    iexact Ho
  iintro ⟨Hs, Ho⟩
  try dsimp only
  rw [wp_bind]
  iapply (part8 X Y K c _ _ _ _ _ (slice_blk X Y c 11 rfl rfl slices_S128x512_o0_384_S128x128)) $$ [Hx Hs Ho]
  · isplitr; · iexact Hr
    isplitl [Hx]; · iexact Hx
    isplitl [Hs]; · iexact Hs
    iexact Ho
  iintro ⟨Hx, Hs, Ho⟩
  try dsimp only
  rw [wp_bind]
  iapply (part9 X Y K c _ _ _ _ _ _ _ rfl (slice_blk X Y c 13 rfl rfl slices_S128x512_o0_128_S128x128)) $$ [Hs Ho Ha]
  · isplitr; · iexact Hr
    isplitl [Hs Ho]
    · isplitl [Hs] <;> iassumption
    iexact Ha
  iintro ⟨Hv, Hc, Ho⟩
  try dsimp only
  rw [wp_bind]
  iapply (part10 X Y K c _ _ _ _) $$ [Hv Ho]
  · isplitr; · iexact Hr
    isplitl [Hv]; · iexact Hv
    iexact Ho
  iintro ⟨Hv, Ho⟩
  try dsimp only
  rw [wp_bind]
  iapply (part11 X Y K c _ _ _ _) $$ [Hv Ho]
  · isplitr; · iexact Hr
    isplitl [Hv]; · iexact Hv
    iexact Ho
  iintro ⟨Hv, Ho⟩
  try dsimp only
  rw [wp_bind]
  iapply (part12 X Y K c _ _ _) $$ [Hv Ho]
  · isplitr; · iexact Hr
    isplitl [Hv]; · iexact Hv
    iexact Ho
  iintro ⟨Hv, Ho⟩
  try dsimp only
  ihave Hv := (recvs_end X Y c) $$ Hv
  icases Hv with ⟨HO, Hland⟩
  ihave Hv := (reads_start X Y c) $$ [HO Hc Hp]
  · isplitl [HO]; · iexact HO
    isplitl [Hc] <;> iassumption
  rw [wp_bind]
  iapply (part13 X Y K c) $$ [Hv]
  · isplitr; · iexact Hr
    iexact Hv
  iintro Hv
  try dsimp only
  extract_lets
  iapply (turn_read X Y K c 10 (by decide) (b := readCond c 10#32) (o1 := ![10]) (o3 := ![10, 0, 0]) rfl rfl rfl) $$ [Hv]
  · isplitr <;> iassumption
  iintro Hv
  iapply (turn_read X Y K c 11 (by decide) (b := readCond c 11#32) (o1 := ![11]) (o3 := ![11, 0, 0]) rfl rfl rfl) $$ [Hv]
  · isplitr <;> iassumption
  iintro Hv
  iapply (turn_read X Y K c 12 (by decide) (b := readCond c 12#32) (o1 := ![12]) (o3 := ![12, 0, 0]) rfl rfl rfl) $$ [Hv]
  · isplitr <;> iassumption
  iintro Hv
  iapply (turn_read X Y K c 13 (by decide) (b := readCond c 13#32) (o1 := ![13]) (o3 := ![13, 0, 0]) rfl rfl rfl) $$ [Hv]
  · isplitr <;> iassumption
  iintro Hv
  iapply (turn_read X Y K c 14 (by decide) (b := readCond c 14#32) (o1 := ![14]) (o3 := ![14, 0, 0]) rfl rfl rfl) $$ [Hv]
  · isplitr <;> iassumption
  iintro Hv
  iapply (turn_read X Y K c 15 (by decide) (b := readCond c 15#32) (o1 := ![15]) (o3 := ![15, 0, 0]) rfl rfl rfl) $$ [Hv]
  · isplitr <;> iassumption
  iintro Hv
  ihave Hv := (reads_end X Y c) $$ Hv
  icases Hv with ⟨HO, Hrel⟩
  iapply (runs_pure c)
  iapply Hk
  unfold past
  rw [← all_copied c]
  isplitl [HO]; · iexact HO
  isplitl [Hx]; · iexact Hx
  isplitl [Hz]; · iexact Hz
  isplitl [Hland]; · iexact Hland
  isplitl [Hrel]; · iexact Hrel
  iexact Ho

end Cert.Scatter

end
-- ==== Proof.Data.lean ====
/-
# The kernel as the pipeline runs it

What a device starts its one grid point from and what it has after it, and the pipeline's obligation for the body: the
buffers cut into slots on the way in and joined again on the way out, the two semaphores no one uses closed at once.
-/
module

public import proofs.«01_k».proof.Proof.Body
public import proofs.«01_k».proof.Proof.Gen.KernelIdeal.Points

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (X : Dev nD → Vec F S128x2048 .f32) (Y : Dev nD → Vec F S2048x2048 .f32) (K : Dev nD × Kind → ℕ)

/-! ## Slots and cells, all of a device's at once -/

theorem slots_univ : (Finset.univ : Finset (Dev nD)).biUnion slot = Finset.univ := by
  refine Finset.eq_univ_iff_forall.mpr fun i => Finset.mem_biUnion.mpr ⟨⟨(i 0).val, (i 0).isLt⟩, Finset.mem_univ _, ?_⟩
  exact mem_slot.mpr rfl

theorem y_split (c : Dev nD) (f : (cc0_scratch0 : Ref sig .tc).ty.Contents (Elt F)) :
    yOn c Finset.univ f ⊢ (bigSep Finset.univ fun j => iprop(∃ f, yOn (F := F) c (slot j) f) : sProp 𝕄) :=
  ((congrArg (fun S => (yOn c S f : sProp 𝕄)) slots_univ.symm).trans
    (pointsTo_biUnion (ℓ := (c : Thread nD τ).loc cc0_scratch0) Finset.univ slot (fun _ _ _ _ h => slot_disjoint h))).le.trans
    (bigSep_mono fun j _ => (by iintro H; iexists f; iexact H : yOn c (slot j) f ⊢ (iprop(∃ f, yOn (F := F) c (slot j) f) : sProp 𝕄)))
theorem r_split (c : Dev nD) (f : (cc0_scratch1 : Ref sig .tc).ty.Contents (Elt F)) :
    rOn c Finset.univ f ⊢ (bigSep Finset.univ fun j => iprop(∃ f, rOn (F := F) c (slot j) f) : sProp 𝕄) :=
  ((congrArg (fun S => (rOn c S f : sProp 𝕄)) slots_univ.symm).trans
    (pointsTo_biUnion (ℓ := (c : Thread nD τ).loc cc0_scratch1) Finset.univ slot (fun _ _ _ _ h => slot_disjoint h))).le.trans
    (bigSep_mono fun j _ => (by iintro H; iexists f; iexact H : rOn c (slot j) f ⊢ (iprop(∃ f, rOn (F := F) c (slot j) f) : sProp 𝕄)))

theorem y_whole (c : Dev nD) :
    (bigSep Finset.univ fun j => iprop(∃ f, yOn (F := F) c (slot j) f)) ⊢ (iprop(∃ f, yOn (F := F) c Finset.univ f) : sProp 𝕄) := by
  iintro H
  ihave H := (BI.bigSep_exists_pi Finset.univ (fun (j : Dev nD) f => (yOn (F := F) c (slot j) f : sProp 𝕄))) $$ H
  icases H with ⟨%fs, H⟩
  ihave H := (pointsTo_biUnion_join (ℓ := (c : Thread nD τ).loc cc0_scratch0) (q := fullShare) Finset.univ slot fs (fs c) (fun _ _ _ _ h => slot_disjoint h)) $$ H
  icases H with ⟨%g, -, H⟩
  rw [slots_univ]
  iexists g
  iexact H
theorem r_whole (c : Dev nD) :
    (bigSep Finset.univ fun j => iprop(∃ f, rOn (F := F) c (slot j) f)) ⊢ (iprop(∃ f, rOn (F := F) c Finset.univ f) : sProp 𝕄) := by
  iintro H
  ihave H := (BI.bigSep_exists_pi Finset.univ (fun (j : Dev nD) f => (rOn (F := F) c (slot j) f : sProp 𝕄))) $$ H
  icases H with ⟨%fs, H⟩
  ihave H := (pointsTo_biUnion_join (ℓ := (c : Thread nD τ).loc cc0_scratch1) (q := fullShare) Finset.univ slot fs (fs c) (fun _ _ _ _ h => slot_disjoint h)) $$ H
  icases H with ⟨%g, -, H⟩
  rw [slots_univ]
  iexists g
  iexact H

/-- A product over a device's cells: its barrier, its send semaphores, its receive semaphores. -/
theorem bigSep_own (Φ : Bool × Dev nD → sProp 𝕄) :
    bigSep Finset.univ Φ = iprop((bigSep Finset.univ fun j => Φ (false, j)) ∗ bigSep Finset.univ fun i => Φ (true, i)) := by
  rw [bigSep_univ_prod, bigSep_univ_eq_bigSepL [false, true] (by decide) (by decide), bigSepL_cons_cons, bigSepL_singleton]
  rfl
theorem bigSep_kinds (Φ : Kind → sProp 𝕄) :
    bigSep Finset.univ Φ = iprop(Φ none ∗ bigSep Finset.univ fun k => Φ (some k)) := by
  rw [bigSep_univ_at _ none, show (Finset.univ : Finset Kind).erase none = Finset.univ.map ⟨some, Option.some_injective _⟩ by decide, bigSep_map]
  rfl

/-! ## Before and after the body -/

/-- The tokens of the payments device `c` makes: a signal to each device, a credit on each send semaphore of its own, a
    credit on its receive semaphore of each device. -/
def payToks (c : Dev nD) : sProp 𝕄 :=
  iprop((bigSep Finset.univ fun d => dutyTok ER (barCell d) 0 c) ∗ (bigSep Finset.univ fun j => dutyTok ER (sendCell c j) 0 c)
    ∗ bigSep Finset.univ fun j => dutyTok ER (recvCell j c) 0 c)

/-- The exchange's ghost state a device starts from: every cell's invariant under some name, that every cell has reached
    its round, its own positions, its tokens. -/
def ghost (c : Dev nD) : sProp 𝕄 :=
  iprop(∃ K : Dev nD × Kind → ℕ, ((bigSep Finset.univ fun ck : Dev nD × Kind => cellInv ER (sched X Y) (K ck) (cell ck.1 ck.2))
      ∗ (bigSep Finset.univ fun ck : Dev nD × Kind => reached ER (cell ck.1 ck.2) 0))
    ∗ (bigSep Finset.univ fun k : Kind => atPos ER (cell c k) 0 ∅ 0) ∗ payToks c)

/-- What its peers' launch debts give a device: fifteen units at its barrier, a slot's credit at each receive semaphore. -/
def credits (c : Dev nD) : sProp 𝕄 :=
  iprop(cred (tallyAt (barCell c) () 15) ∗ bigSep (Finset.univ.erase c) fun i => cred (tallyAt (recvCell c i) () credit))

def start (c : Dev nD) : sProp 𝕄 := iprop(ghost X Y c ∗ credits c ∗ levAts L lv)

/-- The two exchange buffers, whole. -/
def scratch (c : Dev nD) : sProp 𝕄 := iprop((∃ f, yOn (F := F) c Finset.univ f) ∗ ∃ f, rOn (F := F) c Finset.univ f)

def Φ₀ (c : Dev nD) : sProp 𝕄 := iprop(start X Y c ∗ scratch c)
def Φ₁ (c : Dev nD) : sProp 𝕄 :=
  iprop(scratch (F := F) c ∗ (bigSep Finset.univ fun k : Bool × Dev nD => semVal (cell c (some k)) 0) ∗ semVal (barCell c) 0)

/-- What the launch gives, cut as the body takes it, with what the body never touches: its own slots, and its positions
    at its two idle semaphores. -/
theorem before_intro (c : Dev nD) :
    iprop((bigSep Finset.univ fun k : Kind => atPos ER (cell c k) 0 ∅ 0) ∗ payToks c ∗ credits c ∗ scratch c
        ∗ owesE c (owe c (Finset.univ.erase c) (Finset.univ.erase c)) ∗ operands X Y c ∗ outOn X Y c ∅)
      ⊢ (iprop(before X Y c ∗ (atPos ER (sendCell c c) 0 ∅ 0 ∗ atPos ER (recvCell c c) 0 ∅ 0)
        ∗ (∃ f, yOn (F := F) c (slot c) f) ∗ ∃ f, rOn (F := F) c (slot c) f) : sProp 𝕄) := by
  unfold payToks credits scratch before signals ready awaits sendPos
  rw [bigSep_kinds, bigSep_own, bigSep_univ_at (fun j => (atPos ER (sendCell c j) 0 ∅ 0 : sProp 𝕄)) c,
    bigSep_univ_at (fun j => (atPos ER (recvCell c j) 0 ∅ 0 : sProp 𝕄)) c]
  simp only [bigSep_sep']
  iintro ⟨⟨Hpb, ⟨Hs, Hps⟩, Hr, Hpr⟩, ⟨Ht1, Ht2, Ht3⟩, ⟨Hcb, Hcr⟩, ⟨⟨%f, Hy⟩, ⟨%g, Hr2⟩⟩, HO, Hx, Ho⟩
  ihave Ht1 := (show _ ⊢ _ from bigSep_subset (Finset.erase_subset c Finset.univ)) $$ Ht1
  ihave Ht2 := (show _ ⊢ _ from bigSep_subset (Finset.erase_subset c Finset.univ)) $$ Ht2
  ihave Ht3 := (show _ ⊢ _ from bigSep_subset (Finset.erase_subset c Finset.univ)) $$ Ht3
  ihave Hy := ((y_split c f).trans (Entails.of_eq (bigSep_univ_at _ c))) $$ Hy
  ihave Hr2 := ((r_split c g).trans (Entails.of_eq (bigSep_univ_at _ c))) $$ Hr2
  icases Hy with ⟨Hyc, Hy⟩
  icases Hr2 with ⟨Hrc, Hr2⟩
  isplitr [Hs Hr Hyc Hrc]
  · isplitl [HO Ht1 Hr2]
    · isplitl [HO]; · iexact HO
      isplitl [Ht1] <;> iassumption
    isplitl [Hx]; · iexact Hx
    isplitl [Hcb Hpb]
    · isplitl [Hcb] <;> iassumption
    isplitl [Ht2 Ht3 Hy]
    · isplitl [Ht2]; · iexact Ht2
      isplitl [Ht3] <;> iassumption
    isplitl [Hcr Hpr]
    · isplitl [Hcr] <;> iassumption
    isplitl [Hps] <;> iassumption
  isplitl [Hs Hr]
  · isplitl [Hs] <;> iassumption
  isplitl [Hyc] <;> iassumption

/-- What the body leaves, with what it never touched, joined. -/
theorem past_elim (c : Dev nD) :
    iprop(past X Y c ∗ (semVal (sendCell c c) 0 ∗ semVal (recvCell c c) 0) ∗ (∃ f, yOn (F := F) c (slot c) f) ∗ ∃ f, rOn (F := F) c (slot c) f)
      ⊢ (iprop(Φ₁ c ∗ owesE c 0 ∗ operands X Y c ∗ outOn X Y c Finset.univ) : sProp 𝕄) := by
  unfold past received released Φ₁ scratch
  rw [bigSep_own, bigSep_univ_at (fun j => (semVal (sendCell c j) 0 : sProp 𝕄)) c, bigSep_univ_at (fun j => (semVal (recvCell c j) 0 : sProp 𝕄)) c]
  iintro ⟨⟨HO, Hx, Hb, ⟨Hr, Hzr⟩, ⟨Hy, Hzs⟩, Ho⟩, ⟨Hs, Hv⟩, Hyc, Hrc⟩
  isplitl [Hb Hr Hzr Hy Hzs Hs Hv Hyc Hrc]
  · isplitl [Hr Hy Hyc Hrc]
    · isplitl [Hy Hyc]
      · iapply (y_whole c)
        rw [bigSep_univ_at _ c]
        isplitl [Hyc]; · iexact Hyc
        iapply (show _ ⊢ _ from bigSep_mono (Φ := fun j => (yOn c (slot j) (sent X Y c) : sProp 𝕄)) fun j _ => (by iintro H; iexists _; iexact H : _ ⊢ iprop(∃ f, yOn (F := F) c (slot j) f)))
        iexact Hy
      · iapply (r_whole c)
        rw [bigSep_univ_at _ c]
        isplitl [Hrc]; · iexact Hrc
        iapply (show _ ⊢ _ from bigSep_mono (Φ := fun j => (rOn c (slot j) (landed X Y c) : sProp 𝕄)) fun j _ => (by iintro H; iexists _; iexact H : _ ⊢ iprop(∃ f, rOn (F := F) c (slot j) f)))
        iexact Hr
    isplitl [Hzr Hzs Hs Hv]
    · isplitl [Hs Hzs]
      · isplitl [Hs] <;> iassumption
      isplitl [Hv] <;> iassumption
    iexact Hb
  isplitl [HO]; · iexact HO
  isplitl [Hx] <;> iassumption

theorem recs_intro :
    iprop((bigSep Finset.univ fun ck : Dev nD × Kind => cellInv ER (sched X Y) (K ck) (cell ck.1 ck.2))
      ∗ (bigSep Finset.univ fun ck : Dev nD × Kind => reached ER (cell ck.1 ck.2) 0) ∗ levAts L lv) ⊢ (recs X Y K : sProp 𝕄) := by
  unfold recs
  iintro H
  iexact H

/-- The body, from what the launch gives to what the launch takes back. -/
theorem body_whole (c : Dev nD) {Q : PUnit → sProp 𝕄} :
    iprop(Φ₀ X Y c ∗ owesE c (owe c (Finset.univ.erase c) (Finset.univ.erase c)) ∗ operands X Y c ∗ outOn X Y c ∅)
      ⊢ iprop(((Φ₁ c ∗ owesE c 0 ∗ operands X Y c ∗ outOn X Y c Finset.univ) -∗ Q ⟨⟩) -∗ runs c (cc0_body xM (Memref.isWhole_whole _) wM (Memref.isWhole_whole _) oM (Memref.isWhole_whole _) yM (Memref.isWhole_whole _)
          rM (Memref.isWhole_whole _) cc0_scratch2 cc0_scratch3) Q) := by
  rw [cc0_body_eq_skeleton]
  unfold Φ₀ start ghost
  iintro ⟨⟨⟨⟨%K, ⟨#HI, #HR⟩, Hat, Htk⟩, Hcr, #HL⟩, Hsc⟩, HO, Hx, Ho⟩ Hk
  ihave H := (before_intro X Y c) $$ [Hat Htk Hcr Hsc HO Hx Ho]
  · isplitl [Hat]; · iexact Hat
    isplitl [Htk]; · iexact Htk
    isplitl [Hcr]; · iexact Hcr
    isplitl [Hsc]; · iexact Hsc
    isplitl [HO]; · iexact HO
    isplitl [Hx] <;> iassumption
  icases H with ⟨Hb, ⟨Hs, Hv⟩, Hslots⟩
  ihave Hrec' := (recs_intro X Y K) $$ []
  · isplitr; · iexact HI
    isplitr <;> iassumption
  icases Hrec' with #Hrec
  imod (Rounds.cell_close ER (sched X Y) (Set.mem_univ (K (c, some (false, c)))) (fun h => h) (R := 0) (duties_idle X Y c false)) $$ [Hs] with Hs
  · isplitr; · iapply (recs_inv X Y K c (some (false, c))); iexact Hrec
    iexact Hs
  imod (Rounds.cell_close ER (sched X Y) (Set.mem_univ (K (c, some (true, c)))) (fun h => h) (R := 0) (duties_idle X Y c true)) $$ [Hv] with Hv
  · isplitr; · iapply (recs_inv X Y K c (some (true, c))); iexact Hrec
    iexact Hv
  iapply (body_run X Y K c) $$ [Hb]
  · isplitr; · iexact Hrec
    iexact Hb
  iintro Hp
  iapply Hk
  iapply (past_elim X Y c)
  isplitl [Hp]; · iexact Hp
  isplitl [Hs Hv]
  · isplitl [Hs] <;> iassumption
  iexact Hslots

end Cert.Scatter

end
-- ==== Proof.Launch.lean ====
/-
# The launch

What the launch deals each device, the pipeline's data and its obligation for the body, and the run of the whole program
from any memory with zero counters: every device's result array ends at `final` of the operands, the operands end
unchanged, and every semaphore counter ends at zero.
-/
module

public import proofs.«01_k».proof.Proof.Data
public import Idealize.ShloMosaic.Lib.Pipeline.CollectiveSegs

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ) (ρ : Dev nD → PrngReg)

/-- The memory at launch: arbitrary contents, zero counters, arbitrary generator registers. -/
def s₀ : MemSt nD τ sig (Elt F) := ⟨m, fun _ => 0, ρ⟩

/-- The devices' operands, as fetched. -/
def X₀ (c : Dev nD) : Vec F S128x2048 .f32 :=
  (win0_0.blk (0 : Fin 1)).view.read (Elt F) (m ((c : Thread nD τ).loc main_arg0))
def Y₀ (c : Dev nD) : Vec F S2048x2048 .f32 :=
  (win0_1.blk (0 : Fin 1)).view.read (Elt F) (m ((c : Thread nD τ).loc main_arg1))

attribute [local irreducible]
  k0_cond1 k0_cond2 k0_cond3 k0_cond4 k0_cond5 k0_cond6 k0_cond7 k0_cond8 k0_cond9 k0_cond10 k0_cond11 k0_cond12
  k0_cond13 k0_cond14 k0_cond15 k0_cond16 k0_cond17 k0_cond18 k0_cond19 k0_cond20 k0_cond21 k0_cond22 k0_cond23
  k0_cond24 k0_cond25 k0_cond26 k0_cond27 k0_cond28 k0_cond29 k0_cond30 k0_cond31 k0_cond32 k0_cond33 k0_cond34
  k0_cond35 k0_cond36 k0_cond37 k0_cond38 k0_cond39 k0_cond40 k0_cond41 k0_cond42 k0_cond43 k0_cond44 k0_cond45
  k0_cond46 k0_cond47 k0_cond48 k0_cond49 k0_cond50 k0_cond51 k0_cond52 k0_off1 k0_off2 k0_off3 k0_off4 k0_off5
  k0_off6 k0_off7 k0_off8 k0_off9 k0_off10 k0_off11 k0_off12 k0_off13 k0_off14 k0_off15 k0_off16 k0_off17
  k0_off18 k0_off19 k0_off20 k0_off21 k0_off22 k0_off23 k0_off24 k0_off25 k0_off26 k0_off27 k0_off28 k0_off29
  k0_off30 k0_off31 k0_off32 k0_off33 k0_off34 k0_off35 k0_off36 k0_off37 k0_off38 k0_off39 k0_off40 k0_off41
  k0_off42 k0_off43 k0_off44 k0_off45 k0_off46 k0_off47 k0_off48 k0_off49 k0_off50 k0_off51 k0_off52 k0_off53
  k0_off54 k0_off55 k0_off56 k0_off57 k0_off58 k0_off59 k0_off60 k0_off61 k0_off62 k0_off63 k0_off64 k0_off65
  k0_off66 k0_off67 k0_off68 k0_off69 k0_off70 k0_off71 k0_off72 k0_off73 k0_off74 k0_off75 k0_off76 k0_off77
  k0_off78 k0_off79 k0_off80 k0_off81 k0_off82 k0_off83 k0_off84 k0_off85 k0_off86 k0_off87 k0_off88 k0_off89
  k0_off90 k0_off91 k0_off92 k0_off93 k0_off94 k0_off95 k0_off96 k0_off97 k0_off98 k0_off99 k0_off100 k0_off101
  k0_off102 k0_off103 k0_off104 k0_off105 k0_off106 k0_off107 k0_off108 k0_off109 k0_off110 k0_off111 k0_off112
  k0_off113 k0_off114 k0_off115 k0_off116 k0_off117 k0_off118 k0_off119 k0_off120 k0_off121 k0_off122 k0_off123
  k0_off124 k0_off125 k0_off126 k0_off127 k0_off128 k0_off129 k0_off130 k0_off131 k0_off132 k0_off133 k0_off134
  k0_off135 k0_off136 k0_off137 k0_off138 k0_off139 k0_dev1 k0_dev2 k0_dev3 k0_dev4 k0_dev5 k0_dev6 k0_dev7
  k0_dev8 k0_dev9 k0_dev10 k0_dev11 k0_dev12 k0_dev13 k0_dev14 k0_dev15 k0_dev16 k0_dev17 k0_dev18 k0_dev19
  k0_dev20 k0_dev21 k0_dev22 k0_dev23 k0_dev24 k0_dev25 k0_dev26 k0_dev27 k0_dev28 k0_dev29 k0_dev30 k0_dev31

/-! ## The pipeline's data -/

/-- What a device owes at launch: its signals and its transfers. -/
def O₀ (c : Dev nD) : CellTallies nD τ sig Unit := owe c (Finset.univ.erase c) (Finset.univ.erase c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X₀ m c
    | ⟨1, _⟩ => Y₀ m c
    | ⟨2, _⟩ => final (X₀ m) (Y₀ m) c
  Φ t := match t with
    | ⟨0, _⟩ => Φ₀ (X₀ m) (Y₀ m) c
    | ⟨_ + 1, _⟩ => Φ₁ c
  q _ := fullShare
  owed t := match t with
    | ⟨0, _⟩ => O₀ c
    | ⟨_ + 1, _⟩ => 0

abbrev t₀ : Fin cfg0.N := t0_0

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- A staging buffer held whole at given contents. -/
abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

def bodyPre (c : Dev nD) : sProp 𝕄 :=
  iprop(Φ₀ (X₀ m) (Y₀ m) c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (X₀ m c) ∗ stg c cc0_stg1_0 (Y₀ m c) ∗ stg c cc0_stg2_0 (final (X₀ m) (Y₀ m) c))

theorem body_point (c : Dev nD) :
    bodyPre m ρ c ⊢ runs c (cc0_body xM (Memref.isWhole_whole _) wM (Memref.isWhole_whole _) oM (Memref.isWhole_whole _) yM (Memref.isWhole_whole _)
          rM (Memref.isWhole_whole _) cc0_scratch2 cc0_scratch3) (fun _ => bodyPost m ρ c) := by
  unfold bodyPre
  iintro ⟨HΦ, Ho, ⟨%d0, %g0, %hg0, Hx⟩, ⟨%d1, %g1, %hg1, Hw⟩, ⟨%d2, %g2, %hg2, Hout⟩⟩
  have hx : g0 = X₀ m c := by rw [hg0]; unfold Dat.before; rw [if_pos (fetch0_0 t₀)]; rfl
  have hw : g1 = Y₀ m c := by rw [hg1]; unfold Dat.before; rw [if_pos (fetch0_1 t₀)]; rfl
  subst hx hw
  unfold Dat.owesAt Pipeline.owesWithin
  icases Ho with ⟨%W, -, HO⟩
  rw [show (dats m ρ 0 c).owed t₀.castSucc = O₀ c from rfl]
  iapply (body_whole (X₀ m) (Y₀ m) c) $$ [HΦ HO Hx Hw Hout]
  · isplitl [HΦ]; · iexact HΦ
    isplitl [HO]; · unfold owesE; iexists W; iexact HO
    isplitl [Hx Hw]
    · unfold operands; isplitl [Hx] <;> iassumption
    unfold outOn
    iexists g2
    isplitr; · ipureintro; exact fun i h => absurd h.choose_spec.1 (Finset.notMem_empty _)
    iexact Hout
  iintro ⟨HΦ, HO, Hx, Ho⟩
  unfold owesE operands outOn bodyPost Dat.owesAt Pipeline.owesWithin
  rw [show (dats m ρ 0 c).owed t₀.succ = 0 from rfl]
  icases HO with ⟨%W', HO⟩
  icases Hx with ⟨Hx, Hw⟩
  icases Ho with ⟨%f, %hf, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists f; isplitr; · (ipureintro; exact agrees_univ (X₀ m) (Y₀ m) c f hf)
  iexact Ho

set_option maxRecDepth 4000 in
/-- The pipeline's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_point m ρ c

/-! ## What the launch deals -/

/-- The kernel's own semaphores: those of the two arrays. -/
abbrev osem (k : Bool × Dev nD) : SemLoc sig := semOf (some k)

theorem ownSemFacts : Pipeline.OwnSemFacts cfg0.spec osem where
  isScoped := by decide
  inj := fun a b h => Option.some.inj (semOf_injective h)
  disj := by decide

theorem share_eq (c : Dev nD) (w : Fin cfg0.W) : (dats m ρ 0 c).share w = fullShare := by unfold Dat.share; split <;> rfl

theorem cell_iff {a b : Dev nD} {k k' : Kind} : cell a k = cell b k' ↔ a = b ∧ k = k' :=
  ⟨fun h => ⟨congrArg (fun g : GSem nD τ sig => g.1.1) h, semOf_injective (congrArg Prod.snd h)⟩, fun h => by rw [h.1, h.2]⟩

theorem cell_injective : Function.Injective (fun ck : Dev nD × Kind => cell ck.1 ck.2) := fun a b h =>
  Prod.ext (cell_iff.mp h).1 (cell_iff.mp h).2
def cells : Finset (GSem nD τ sig) := Finset.univ.map ⟨_, cell_injective⟩

/-- Which payment: to a barrier, to a send semaphore, to a receive semaphore; the cell's device, the other device. -/
def tokOf (x : Dev nD × Fin 3 × Dev nD) : GSem nD τ sig × ℕ × Dev nD :=
  match x with
  | (c, 0, d) => (barCell c, 0, d)
  | (c, 1, j) => (sendCell c j, 0, c)
  | (c, 2, i) => (recvCell c i, 0, i)

theorem tokOf_injective : Function.Injective tokOf := by
  rintro ⟨c, k, d⟩ ⟨c', k', d'⟩ h
  have hc : ∀ (c : Dev nD) (k : Fin 3) (d : Dev nD), (tokOf (c, k, d)).1.1.1 = c := fun c k d => by fin_cases k <;> rfl
  obtain rfl : c = c' := (hc c k d).symm.trans ((congrArg (fun x => x.1.1.1) h).trans (hc c' k' d'))
  fin_cases k <;> fin_cases k' <;> have h1 := (cell_iff.mp (congrArg Prod.fst h)).2 <;> have h2 := congrArg (fun x => x.2.2) h <;>
    simp_all [tokOf]
def paymentToks : Finset (GSem nD τ sig × ℕ × Dev nD) := Finset.univ.map ⟨tokOf, tokOf_injective⟩

def u₀ : UU := (initOf (Pipeline.cells cfgs cellOf_inj) (Pipeline.launchToks cfgs cellOf_inj), initOf cells paymentToks)

/-- The tokens of device `c`'s own cells. -/
def toks (c : Dev nD) : sProp 𝕄 :=
  iprop((bigSep Finset.univ fun d => dutyTok ER (barCell c) 0 d) ∗ (bigSep Finset.univ fun j => dutyTok ER (sendCell c j) 0 c)
    ∗ bigSep Finset.univ fun i => dutyTok ER (recvCell c i) 0 i)

variable (X : Dev nD → Vec F S128x2048 .f32) (Y : Dev nD → Vec F S2048x2048 .f32)

def G (c : Dev nD) : sProp 𝕄 :=
  iprop((bigSep Finset.univ fun k : Kind => roundState ER (sched X Y) (cell c k) 0)
    ∗ (bigSep Finset.univ fun k : Kind => reached ER (cell c k) 0) ∗ (bigSep Finset.univ fun k : Kind => atPos ER (cell c k) 0 ∅ 0) ∗ toks c)

theorem fund_exchange : BI.own (ER (initOf cells paymentToks)) ⊢ (|==> bigSep Finset.univ (G X Y) : sProp 𝕄) := by
  have hX (Φ : GSem nD τ sig → sProp 𝕄) : bigSep cells Φ = bigSep Finset.univ fun c : Dev nD => bigSep Finset.univ fun k : Kind => Φ (cell c k) := by
    unfold cells; rw [bigSep_map, bigSep_univ_prod]; rfl
  have hT : bigSep paymentToks (fun x => (dutyTok ER x.1 x.2.1 x.2.2 : sProp 𝕄)) = bigSep Finset.univ fun c : Dev nD => toks c := by
    unfold paymentToks; rw [bigSep_map, bigSep_univ_prod]
    refine bigSep_congr fun c _ => ?_
    rw [bigSep_univ_prod, bigSep_univ_eq_bigSepL [0, 1, 2] (by decide) (by decide)]
    rfl
  iintro HX
  imod (Rounds.fund ER (sched X Y) cells paymentToks) $$ HX with ⟨Hst, Hr, Hat, Htok⟩
  imodintro
  ihave Hst' := (Entails.of_eq (hX fun g => roundState ER (sched X Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (cell c k) 0 : sProp 𝕄) := by
  rw [unscopedSems0_eq, bigSep_kinds]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G X Y c)
      ⊢ |={Set.univ}=> iprop((bigSep Finset.univ fun k => iprop(∃ κ : ℕ, cellInv ER (sched X Y) κ (cell c k)))
          ∗ (bigSep Finset.univ fun k : Kind => reached ER (cell c k) 0) ∗ (bigSep Finset.univ fun k : Kind => atPos ER (cell c k) 0 ∅ 0) ∗ toks c) := by
  unfold G
  iintro ⟨Hos, Hus, Hst, Hrest⟩
  ihave Hv := (sems0_eq (F := F) c) $$ [Hos Hus]
  · isplitl [Hos] <;> iassumption
  imod (show iprop((bigSep Finset.univ fun k : Kind => semVal (cell c k) 0) ∗ bigSep Finset.univ fun k : Kind => roundState ER (sched X Y) (cell c k) 0)
      ⊢ (|={Set.univ}=> bigSep Finset.univ fun k => iprop(∃ κ : ℕ, cellInv ER (sched X Y) κ (cell c k)) : sProp 𝕄) from by
        rw [← bigSep_sep']
        exact (bigSep_mono fun k _ => (Rounds.body_intro ER (sched X Y) (cell c k)).trans inv_alloc).trans (bigSep_fupd _ _)) $$ [Hv Hst] with Hinv
  · isplitl [Hv] <;> iassumption
  imodintro
  isplitl [Hinv]; · iexact Hinv
  iexact Hrest

/-- The tokens dealt to the devices that pay with them: the cell's device and the paying device change places. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun c d : Dev nD => (dutyTok ER (barCell c) 0 d : sProp 𝕄)),
    bigSep_univ_comm (fun c i : Dev nD => (dutyTok ER (recvCell c i) 0 i : sProp 𝕄))]

theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched X Y) κ (cell c k)))
          ∗ (bigSep Finset.univ fun k : Kind => reached ER (cell c k) 0) ∗ (bigSep Finset.univ fun k : Kind => atPos ER (cell c k) 0 ∅ 0) ∗ toks c) : sProp 𝕄)
      ⊢ bigSep Finset.univ (ghost X Y) := by
  rw [bigSep_sep', bigSep_sep', bigSep_sep', ← bigSep_univ_prod (fun ck : Dev nD × Kind => iprop(∃ κ : ℕ, cellInv ER (sched X Y) κ (cell ck.1 ck.2))),
    ← bigSep_univ_prod (fun ck : Dev nD × Kind => (reached ER (cell ck.1 ck.2) 0 : sProp 𝕄))]
  iintro ⟨HI, #HR, Hat, Htok⟩
  ihave HK := (BI.bigSep_exists_pi Finset.univ (fun (ck : Dev nD × Kind) (κ : ℕ) => (cellInv ER (sched X Y) κ (cell ck.1 ck.2) : sProp 𝕄))) $$ HI
  icases HK with ⟨%K, #HI⟩
  ihave Htk := (toks_dealt (F := F)) $$ Htok
  iapply (deal_persistent (R := iprop((bigSep Finset.univ fun ck : Dev nD × Kind => cellInv ER (sched X Y) (K ck) (cell ck.1 ck.2))
      ∗ (bigSep Finset.univ fun ck : Dev nD × Kind => reached ER (cell ck.1 ck.2) 0)))
    (Φ := fun c => iprop((bigSep Finset.univ fun k : Kind => atPos ER (cell c k) 0 ∅ 0) ∗ payToks c))
    fun c _ => (by unfold ghost; iintro H; iexists K; iexact H : _ ⊢ ghost X Y c))
  isplitr
  · isplitr <;> iassumption
  · rw [bigSep_sep']
    isplitl [Hat] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G X Y c) : sProp 𝕄)
    ⊢ |={Set.univ}=> bigSep Finset.univ (ghost X Y) :=
  ((bigSep_mono fun c _ => core_alloc X Y c).trans (bigSep_fupd _ _)).trans (BI.fupd_mono (regroup X Y))

/-! ## The launch credit -/

theorem sum_tally (S : Finset (Dev nD)) (g : Dev nD → GSem nD τ sig) (n : ℕ) (g' : GSem nD τ sig) :
    (∑ j ∈ S, (tallyAt (g j) () n : CellTallies nD τ sig Unit)) g' () = ∑ j ∈ S, if g' = g j then n else 0 := by
  rw [Finset.sum_apply, Finsupp.finset_sum_apply]
  exact Finset.sum_congr rfl fun j _ => by rw [tallyAt_apply]; simp only [and_true]

/-- What device `d` owes device `c`'s barrier: a unit, unless it is `c`. -/
theorem owed_bar (d c : Dev nD) : O₀ d (barCell c) () = if d = c then 0 else 1 := by
  unfold O₀ owe
  rw [Pi.add_apply, Finsupp.add_apply, sum_tally, sum_tally]
  simp only [cell_iff]
  simp only [reduceCtorEq, and_false, and_true, if_false, Finset.sum_const_zero, Nat.zero_add, Finset.sum_ite_eq, Finset.mem_erase, Finset.mem_univ]
  by_cases h : d = c
  · rw [if_neg (fun h' => h' h.symm), if_pos h]
  · rw [if_pos (fun h' => h h'.symm), if_neg h]

/-- What device `d` owes device `c`'s receive semaphore `i ≠ c`: a slot's credit if it is `i`. -/
theorem owed_recv (d c i : Dev nD) (h : i ≠ c) : O₀ d (recvCell c i) () = if d = i then credit else 0 := by
  unfold O₀ owe
  rw [Pi.add_apply, Finsupp.add_apply, sum_tally, sum_tally]
  simp only [cell_iff]
  simp only [reduceCtorEq, and_false, if_false, Finset.sum_const_zero, Nat.add_zero, Option.some.injEq, Prod.mk.injEq, true_and]
  by_cases hd : d = i
  · subst hd
    simp only [and_true, Finset.sum_ite_eq, Finset.mem_erase, Finset.mem_univ, if_true]
    rw [if_pos (fun h' => h h'.symm)]
  · rw [if_neg hd]
    exact Finset.sum_eq_zero fun j _ => if_neg fun h' => hd h'.2.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c i : Dev nD) (h : i ≠ c) :
    tallyOn (recvCell c i) (launchCredit (Pipeline.owing O₀) 0 (recvCell c i)) = (tallyAt (recvCell c i) () credit : CellTallies nD τ sig Unit) := by
  unfold tallyAt; refine congrArg _ (Finsupp.ext fun u => ?_); cases u
  rw [Pipeline.launchCredit_owing, Finsupp.single_eq_same, Finset.sum_congr rfl fun d _ => owed_recv d c i h, Finset.sum_ite_eq' Finset.univ i fun _ => credit,
    if_pos (Finset.mem_univ _)]

theorem credits_intro (c : Dev nD) : (Pipeline.launchCred O₀ c : sProp 𝕄) ⊢ credits c := by
  unfold Pipeline.launchCred credits
  refine (bigSep_subset (Finset.subset_univ (Finset.univ.map ⟨semOf, semOf_injective⟩))).trans ?_
  rw [bigSep_map, bigSep_kinds, bigSep_own]
  show (iprop(_ ∗ _ ∗ _) : sProp 𝕄) ⊢ iprop(_ ∗ _)
  iintro ⟨Hb, -, Hr⟩
  isplitl [Hb]
  · rw [← launch_bar]; iexact Hb
  · ihave Hr := (show _ ⊢ _ from bigSep_subset (Finset.erase_subset c Finset.univ)) $$ Hr
    rw [← bigSep_congr (fun i hi => congrArg cred (launch_recv c i (Finset.ne_of_mem_erase hi)))]
    iexact Hr

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost X Y c)
      ⊢ |={Set.univ}=> iprop(start X Y c ∗ emp) := by
  iintro ⟨-, Hlev, Hcr, -, HG⟩
  ihave Hc := (credits_intro (F := F) c) $$ Hcr
  imodintro
  unfold start
  isplitl
  · isplitl [HG]; · iexact HG
    isplitl [Hc] <;> iassumption
  · iempintro

theorem phi0_intro (c : Dev nD) :
    iprop(start (X₀ m) (Y₀ m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (X₀ m) (Y₀ m) c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch Pipeline.ownSems0
  iintro ⟨Hr, Hz, Hb⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    have hl : ((kindOf (SemLoc.dma ((cfg0.win w).sem s))).map levOf).getD 0 = 0 := by fin_cases w <;> fin_cases s <;> decide
    rcases t with ⟨_ | _, ht⟩
    · exact mayWait_low c _ hl _ _
    · show _ ⊢ MayWait (c : Thread nD τ) _ () 0
      rw [← owe_none c]
      exact mayWait_low c _ hl _ _

/-- What array `w` of device `c` holds after the run. -/
def finalA (c : Dev nD) (w : Fin cfg0.W) : Buf (Elt F) ((cfg0.win w).arr.view.loc (c : Thread nD τ)) := (dats m ρ 0 c).arrAt w cfg0.N

set_option maxRecDepth 8000 in
/-- From any memory with zero counters, for any float values, every weakly fair execution of the sixteen devices'
    program ends, with every array at `finalA` and every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (X₀ m) (Y₀ m)) (G' := ghost (X₀ m) (Y₀ m)) (u₀ := u₀)
    (hu₀ := by
      unfold u₀
      iintro Hu
      ihave H := (ownU_pair _ _) $$ Hu
      icases H with ⟨HP, HX⟩
      imod (fund_exchange (X₀ m) (Y₀ m)) $$ HX with HG
      imodintro
      isplitl [HP] <;> iassumption)
    (hglob := glob (X₀ m) (Y₀ m))
    (hA := fun _ _ => rfl) (hpf := fun _ k => k.elim0)
    (X := start (X₀ m) (Y₀ m)) (Y := fun c => unscopedSems0 c) (Z := fun _ => iprop(emp))
    (hX := start_intro m ρ (X₀ m) (Y₀ m)) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Scatter

end
-- ==== Proof.Value.lean ====
/-
# What the arrays hold at the end

The three arrays of the launch after the run, over any float values: the two operands as they were, and every device's
result array at `final` of the operands. The run restated by the arrays' names.
-/
module

public import proofs.«01_k».proof.Proof.Launch
public import Idealize.ShloMosaic.Lib.Pipeline.Value

@[expose] public section

noncomputable section

namespace Cert.Scatter

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- Each window is one block, the whole of its array: reading the block is reading the array. -/
theorem whole_arg0 (f : (main_arg0 : Ref sig .tc).ty.Contents (Elt F)) : (win0_0.blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f
theorem whole_arg1 (f : (main_arg1 : Ref sig .tc).ty.Contents (Elt F)) : (win0_1.blk t0_0).view.read (Elt F) f = f :=
  Memref.read_access_unit_zero (Elt F) main_arg1
    (show (fun a => (win0_1.index t0_0) a * main_arg1.ty.shape.size a) = fun _ => 0 from
      funext fun a => by fin_cases a <;> decide) (fun a => by fin_cases a <;> decide) f
theorem whole_res (f : (main_v1 : Ref sig .tc).ty.Contents (Elt F)) : (win0_2.blk t0_0).view.read (Elt F) f = f :=
  Memref.read_access_unit_zero (Elt F) main_v1
    (show (fun a => (win0_2.index t0_0) a * main_v1.ty.shape.size a) = fun _ => 0 from
      funext fun a => by fin_cases a <;> decide) (fun a => by fin_cases a <;> decide) f

/-- So the operands as fetched are the operand arrays as launched. -/
theorem X₀_eq (c : Dev nD) : X₀ m c = m ((c.tc : Thread nD τ).loc main_arg0) := whole_arg0 _
theorem Y₀_eq (c : Dev nD) : Y₀ m c = m ((c.tc : Thread nD τ).loc main_arg1) := whole_arg1 _

/-- The operand arrays end as they began. -/
theorem finalA_arg0 (c : Dev nD) : finalA m ρ c 0 = m ((c.tc : Thread nD τ).loc main_arg0) :=
  (dats m ρ 0 c).arrAt_in 0 rfl _
theorem finalA_arg1 (c : Dev nD) : finalA m ρ c 1 = m ((c.tc : Thread nD τ).loc main_arg1) :=
  (dats m ρ 0 c).arrAt_in 1 rfl _

/-- The result array ends at what the body left in its staging buffer. -/
theorem finalA_res (c : Dev nD) : finalA m ρ c 2 = final (X₀ m) (Y₀ m) c := by
  have hw : ((cfg0.win 2).blk t0_0).view.read (Elt F) (finalA m ρ c 2) = (dats m ρ 0 c).flushed 2 t0_0 := by
    unfold finalA
    rw [show cfg0.N = t0_0.val + 1 from rfl, (dats m ρ 0 c).arrAt_succ (2 : Fin 3) t0_0, flush0_2, if_pos rfl]
    exact View.read_write_univ _ _
  exact (whole_res (finalA m ρ c 2)).symm.trans hw

/-- The run from any memory with zero counters: every device's result is `final` of the operands, the operands and
    every counter as they began. -/
theorem run_named : θ_run defs (onTc (τ := τ) (main (F := F))) ⟨m, fun _ => 0, ρ⟩ (fun r =>
    (∀ c : Dev nD, r.2.mem ((c.tc : Thread nD τ).loc main_v1)
          = final (fun d : Dev nD => m ((d.tc : Thread nD τ).loc main_arg0)) (fun d : Dev nD => m ((d.tc : Thread nD τ).loc main_arg1)) c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine (θ_run defs _ _).mono (fun r h => ⟨fun c => ⟨?_, ?_, ?_⟩, h.2⟩) (run_main m ρ)
  · refine ((h.1 c 2).trans (finalA_res m ρ c)).trans ?_
    rw [show X₀ m = fun d : Dev nD => m ((d.tc : Thread nD τ).loc main_arg0) from funext (X₀_eq m),
      show Y₀ m = fun d : Dev nD => m ((d.tc : Thread nD τ).loc main_arg1) from funext (Y₀_eq m)]
  · exact (h.1 c 0).trans (finalA_arg0 m ρ c)
  · exact (h.1 c 1).trans (finalA_arg1 m ρ c)

end Cert.Scatter

end
-- ==== Proof.Equation.lean ====
/-
# The equation over the extended reals

Read over the extended reals, where a change of format is the identity, every element of a device's result is the
activation of one element of the whole product; the reference's result is the same activation of the same element, its
cube associated the other way. So the device's result is its block of columns of the reference's.
-/
module

public import proofs.«01_k».proof.Proof.Blocks
public import Idealize.ShloMosaic.Lib.MatmulPlain
public import Idealize.ShloMosaic.Lib.Layout

@[expose] public section

noncomputable section

namespace Cert.Scatter

open Cert.KernelIdeal Cert.KernelIdeal.Gen
open Idealize.ShloMosaic Idealize.ShloMosaic.TcCoe
open Idealize.ShloMosaic.ValueIdx

/-- The activation of one extended real, as the kernel associates it: half of `y` times one more than the hyperbolic
    tangent of a multiple of `y` plus a multiple of its cube. -/
def gelu (y : EReal) : EReal :=
  Ideal.ofBits .f32 0x3F000000#32 * y *
    (Ideal.ofBits .f32 0x3F800000#32
      + Ideal.tanh (Ideal.ofBits .f32 0x3F4C422A#32 * (y + Ideal.ofBits .f32 0x3D372713#32 * y * y * y)))

/-- One element of the kernel's activated product: the activation of the row's sum of products with the column. -/
theorem act_apply (x : Vec Ideal S128x2048 .f32) (w : Vec Ideal S2048x512 .f32) (r : Fin 128) (k : Fin 512) :
    act x w (ix2 r k) = gelu (∑ c : Fin 2048, x (ix2 r c) * w (ix2 c k)) := by
  have h : matmul dot_S128x2048_S2048x512_S128x512_1_0_0_1_n_n none
        (shapeCast S128x2048 x shapeCasts_S128x2048_S128x2048 : FVec Ideal S128x2048 .f32)
        (shapeCast S2048x512 w shapeCasts_S2048x512_S2048x512 : FVec Ideal S2048x512 .f32)
        (constant S128x512 .f32 0x00000000#32) (ix2 r k)
      = ∑ c : Fin 2048, x (ix2 r c) * w (ix2 c k) := by
    rw [shapeCast_self, shapeCast_self]
    refine (Ideal.matmul_plain_apply (M := 128) (K := 2048) (N := 512) none x w _ r k).trans ?_
    rw [show (constant S128x512 .f32 0x00000000#32 : FVec Ideal S128x512 .f32) (ix2 r k) = 0 from Ideal.ofBits_zero_f32, zero_add]
  rw [← h]
  rfl

/-- Element `(r, k)` of block `j` of device `c`: the activation of row `r` of its operand against column `128 j + k` of
    the weights. -/
theorem blk_apply (X : Dev nD → Vec Ideal S128x2048 .f32) (Y : Dev nD → Vec Ideal S2048x2048 .f32) (c j : Dev nD)
    (r k : Fin 128) (q : Fin 2048) (hq : q.val = j.val * 128 + k.val) :
    blk X Y c j (ix2 r k) = gelu (∑ a : Fin 2048, X c (ix2 r a) * Y c (ix2 a q)) := by
  refine (act_apply _ _ r _).trans (congrArg gelu (Finset.sum_congr rfl fun a _ => ?_))
  refine congrArg (X c (ix2 r a) * ·) (congrArg (Y c) ?_)
  refine congrArg (ix2 a) (Fin.ext ?_)
  show 512 * (j.val / 4) + (128 * (j.val % 4) + k.val) = q.val
  omega

/-- The result of whole operands `A` and `B`: the activation of every element of their product. -/
def whole (A B : Vec Ideal S2048x2048 .f32) : Vec Ideal S2048x2048 .f32 :=
  fun i => gelu (∑ a : Fin 2048, A (ix2 (i 0) a) * B (ix2 a (i 1)))

/-- Device `c`'s result, every device holding its rows of `A` and all of `B`, is block `c` of the columns of `whole A B`. -/
theorem final_eq (A B : Vec Ideal S2048x2048 .f32) (hA : Layout.Tiles ⟨2, ![128, 2048]⟩ ⟨2, ![2048, 2048]⟩ 0 16)
    (hB : Layout.Tiles ⟨2, ![2048, 128]⟩ ⟨2, ![2048, 2048]⟩ 1 16) (c : Dev nD) :
    final (F := Ideal) (fun d => Layout.block ⟨2, ![128, 2048]⟩ ⟨2, ![2048, 2048]⟩ 0 16 d A hA) (fun _ => B) c
      = Layout.block ⟨2, ![2048, 128]⟩ ⟨2, ![2048, 2048]⟩ 1 16 c (whole A B) hB := by
  funext i
  have hi : (i 0).val < 2048 := (i 0).isLt
  have hk : (i 1).val < 128 := (i 1).isLt
  have hc : c.val < 16 := c.isLt
  have key : ∀ d : Dev nD, d.val = (i 0).val / 128 → ∀ r : Fin 128, r.val = (i 0).val % 128 →
      blk (fun d => Layout.block ⟨2, ![128, 2048]⟩ ⟨2, ![2048, 2048]⟩ 0 16 d A hA) (fun _ => B) d c (ix2 r (i 1))
        = whole A B (hB.idx c i) := by
    intro d hd r hr
    refine (blk_apply _ _ d c r (i 1) ⟨c.val * 128 + (i 1).val, by omega⟩ rfl).trans ?_
    refine congrArg gelu (Finset.sum_congr rfl fun a _ => ?_)
    refine congrArg₂ (· * ·) (congrArg A ?_) (congrArg B ?_)
    · funext b
      fin_cases b
      · refine Fin.ext (show d.val * 128 + r.val = (i 0).val from ?_)
        omega
      · rfl
    · funext b
      fin_cases b <;> rfl
  have hw := key ⟨(i 0).val / 128, by show _ < 16; omega⟩ rfl ⟨(i 0).val % 128, Nat.mod_lt _ (by decide)⟩ rfl
  show (if _ then _ else _) = whole A B (hB.idx c i)
  exact (ite_self _).trans hw

end Cert.Scatter

end
-- ==== Proof.Reference.lean ====
/-
# The reference's result

The reference's run, its result read over the extended reals: the activation of every element of the product of its two
arguments. Its cube is `y * y * y` multiplied first and then scaled, the kernel's is scaled first.
-/
module

public import proofs.«01_k».proof.Proof.Equation
public import proofs.«01_k».proof.Proof.Gen.ReferenceIdeal.Run
public import Idealize.ShloMosaic.Lib.StackMember

@[expose] public section

noncomputable section

namespace Cert.Scatter

open Cert.ReferenceIdeal Cert.ReferenceIdeal.Gen
open Idealize.ShloMosaic Idealize.ShloMosaic.TcCoe
open Idealize.ShloMosaic.ValueIdx
open Idealize.SL.Sem

/-- One constant laid over the whole array. -/
abbrev splat (b : BitVec 32) : FVec Ideal S2048x2048 .f32 := broadcastInDim S2048x2048 ![] bcast_S_S2048x2048 (constant S_ .f32 b)

/-- The reference's activation of one extended real. -/
theorem gelu_cube (y : EReal) :
    Ideal.ofBits .f32 0x3F000000#32 * y *
      (Ideal.ofBits .f32 0x3F800000#32
        + Ideal.tanh (Ideal.ofBits .f32 0x3F4C422A#32 * (y + Ideal.ofBits .f32 0x3D372713#32 * (y * y * y)))) = gelu y := by
  unfold gelu
  rw [mul_assoc (Ideal.ofBits .f32 0x3D372713#32 * y), mul_assoc (Ideal.ofBits .f32 0x3D372713#32), mul_assoc y]

/-- The reference's operations after its product, at one element. -/
theorem tail_apply (D : FVec Ideal S2048x2048 .f32) (i : S2048x2048.Idx) :
    mulf (mulf (splat 0x3F000000#32) D) (addf (splat 0x3F800000#32) (Host.tanh (mulf (splat 0x3F4C422A#32)
      (addf D (mulf (splat 0x3D372713#32) (mulf (mulf D D) D)))))) i = gelu (D i) :=
  gelu_cube (D i)

/-- The reference's product at one element: the sum of the row's products with the column. -/
theorem product_apply (A B : FVec Ideal S2048x2048 .f32) (i : S2048x2048.Idx) :
    Host.dotGeneral dot_S2048x2048_S2048x2048_S2048x2048_1_0_0_1_n_n none A B i
      = ∑ a : Fin 2048, A (ix2 (i 0) a) * B (ix2 a (i 1)) := by
  obtain ⟨r, k, rfl⟩ : ∃ r k : Fin 2048, i = ix2 r k := ⟨i 0, i 1, by funext b; fin_cases b <;> rfl⟩
  exact Idealize.ShloMosaic.StackMember.dotGeneral_plain_apply (m := 2048) (n := 2048) (k := 2048) none A B r k

/-- The reference runs, leaves its arguments, and ends with `whole` of them. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = whole (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext i
  exact (tail_apply _ i).trans (congrArg gelu (product_apply _ _ i))

end Cert.Scatter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The run over the extended reals ends with the operands unchanged and every counter at zero. -/
theorem frame_ideal : Cert.quiescent_KernelIdeal := fun m ρ _ =>
  (θ_run Cert.KernelIdeal.defs _ _).mono (fun _ h => ⟨fun c => (h.1 c).2, h.2⟩) (Cert.Scatter.run_named (F := Ideal) m ρ)

/-- The two programs have the same text, so their body tables agree: the kernel's, -/
theorem bodies_eq : Cert.Kernel.defs₀ (F := Bits) = Cert.KernelIdeal.defs₀ (F := Bits) :=
  congrArg Defs.onTc (funext fun ℓ => match ℓ with
    | ⟨0, _⟩ => funext fun (_, _) => rfl
    | ⟨_ + 1, h⟩ => absurd h (Nat.not_lt.2 (Nat.le_add_left _ _)))

/-- and the whole program's. -/
theorem defs_eq : Cert.Kernel.defs (F := Bits) = Cert.KernelIdeal.defs (F := Bits) :=
  congrArg (Pipeline.defs (Cert.Kernel.pcfgs (F := Bits))) bodies_eq

/-- The same run over bit patterns. -/
theorem frame_kernel : Cert.quiescent_Kernel := by
  intro m ρ _
  rw [defs_eq]
  exact (θ_run Cert.KernelIdeal.defs _ _).mono (fun _ h => ⟨fun c => (h.1 c).2, h.2⟩) (Cert.Scatter.run_named (F := Bits) m ρ)

/-- The reference leaves its arguments, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Scatter.run_reference m ρ)

/-- Every device's result is its block of columns of the reference's result, over the extended reals. -/
theorem algebraic : Cert.algebraic_KernelIdeal_ReferenceIdeal := by
  intro m ρ m' ρ' _ hm
  refine ⟨Cert.Scatter.whole _ _, ?_, (θ_run Cert.ReferenceIdeal.defs _ _).mono (fun r h => h 0) (Cert.Scatter.run_reference m' ρ')⟩
  refine (θ_run Cert.KernelIdeal.defs _ _).mono (fun _ h c => ⟨(h.1 c).1.trans ?_, (h.1 c).2⟩)
    (Cert.Scatter.run_named (F := Ideal) m ρ)
  rw [funext fun d => (hm d).1, funext fun d => (hm d).2]
  exact Cert.Scatter.final_eq _ _ _ _ c

theorem claim : Cert.Claim := ⟨Cert.Kernel.Gen.facts, Cert.KernelIdeal.Gen.facts, Cert.ReferenceIdeal.Gen.facts, frame_kernel, frame_ideal, frame_reference, trivial, algebraic⟩

end Cert.Proof

end
